-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclamped [hPre_unclamped : Cert.Pre_unclamped.Facts] (m : (ℓ : Loc Cert.KernelIdeal.nD Cert.KernelIdeal.τ Cert.KernelIdeal.sig) → Buf (Elt Ideal) ℓ) : Prop :=
  ∀ c : Dev Cert.KernelIdeal.nD,
    (Cert.Pre_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclamped [hPre_unclamped : Cert.Pre_unclamped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_unclamped [hKernelIdeal : Cert.KernelIdeal.Facts] [hPre_unclamped : Cert.Pre_unclamped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclamped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_unclamped [hReferenceIdeal : Cert.ReferenceIdeal.Facts] [hPre_unclamped : Cert.Pre_unclamped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclamped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_unclamped [hKernelIdeal : Cert.KernelIdeal.Facts] [hReferenceIdeal : Cert.ReferenceIdeal.Facts] [hPre_unclamped : Cert.Pre_unclamped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclamped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def algebraic_KernelIdeal_ReferenceIdeal_on_unclamped [hKernelIdeal : Cert.KernelIdeal.Facts] [hReferenceIdeal : Cert.ReferenceIdeal.Facts] [hOn_unclamped : Cert.On_unclamped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![64, 325, 12, 4]⟩ : Shape).Idx, (Cert.On_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) i = 1#1 → r.2.mem ((c.tc : Thread Cert.KernelIdeal.nD Cert.KernelIdeal.τ).loc Cert.KernelIdeal.main_v18) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![64, 325, 12, 4]⟩ : Shape).Idx, (Cert.On_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) i = 1#1 → r.2.mem ((c.tc : Thread Cert.ReferenceIdeal.nD Cert.ReferenceIdeal.τ).loc Cert.ReferenceIdeal.main_v127) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_unclamped : Cert.Pre_unclamped.Facts) (hOn_unclamped : Cert.On_unclamped.Facts),
    quiescent_Kernel (hKernel := hKernel)
    ∧ quiescent_KernelIdeal (hKernelIdeal := hKernelIdeal)
    ∧ quiescent_KernelIdeal_pre_unclamped (hKernelIdeal := hKernelIdeal) (hPre_unclamped := hPre_unclamped)
    ∧ quiescent_ReferenceIdeal (hReferenceIdeal := hReferenceIdeal)
    ∧ quiescent_ReferenceIdeal_pre_unclamped (hReferenceIdeal := hReferenceIdeal) (hPre_unclamped := hPre_unclamped)
    ∧ preserves_Kernel_KernelIdeal
    ∧ algebraic_KernelIdeal_ReferenceIdeal_pre_unclamped (hKernelIdeal := hKernelIdeal) (hReferenceIdeal := hReferenceIdeal) (hPre_unclamped := hPre_unclamped)
    ∧ algebraic_KernelIdeal_ReferenceIdeal_on_unclamped (hKernelIdeal := hKernelIdeal) (hReferenceIdeal := hReferenceIdeal) (hOn_unclamped := hOn_unclamped)
-- ==== On_unclamped.lean ====
abbrev S64x325x12x2 : Shape := ⟨4, ![64, 325, 12, 2]⟩
abbrev S64x325x12x64 : Shape := ⟨4, ![64, 325, 12, 64]⟩
abbrev S20x32 : Shape := ⟨2, ![20, 32]⟩
abbrev S2x32 : Shape := ⟨2, ![2, 32]⟩
abbrev S64x32 : Shape := ⟨2, ![64, 32]⟩
abbrev S64x325x12x32 : Shape := ⟨4, ![64, 325, 12, 32]⟩
abbrev S32x20 : Shape := ⟨2, ![32, 20]⟩
abbrev S64x325x12x20 : Shape := ⟨4, ![64, 325, 12, 20]⟩
abbrev S_ : Shape := ⟨0, ![]⟩
abbrev S64x325x12 : Shape := ⟨3, ![64, 325, 12]⟩
abbrev S64x325x12x1 : Shape := ⟨4, ![64, 325, 12, 1]⟩
abbrev S64x325x32x12 : Shape := ⟨4, ![64, 325, 32, 12]⟩
abbrev S64x325x12x12 : Shape := ⟨4, ![64, 325, 12, 12]⟩
abbrev S64x325x12x4 : Shape := ⟨4, ![64, 325, 12, 4]⟩

class Facts : Prop where
  transposes_S20x32_S32x20_1_0 : S20x32.Transposes [1, 0] S32x20
  reducesTo_S64x325x12x20_S64x325x12_d3 : S64x325x12x20.ReducesTo [3] S64x325x12
  h_S_ : 0 < S_.numel
  bcast_S_S64x325x12 : S_.BroadcastsInDim S64x325x12 (![] : Fin 0 → Fin S64x325x12.rank)
  bcast_S64x325x12_S64x325x12x1_0_1_2 : S64x325x12.BroadcastsInDim S64x325x12x1 (![0, 1, 2] : Fin 3 → Fin S64x325x12x1.rank)
  bcast_S64x325x12x1_S64x325x12x20_0_1_2_3 : S64x325x12x1.BroadcastsInDim S64x325x12x20 (![0, 1, 2, 3] : Fin 4 → Fin S64x325x12x20.rank)
  reducesTo_S64x325x12x32_S64x325x12_d3 : S64x325x12x32.ReducesTo [3] S64x325x12
  transposes_S64x325x12x32_S64x325x32x12_0_1_3_2 : S64x325x12x32.Transposes [0, 1, 3, 2] S64x325x32x12
  reducesTo_S64x325x12x12_S64x325x12_d3 : S64x325x12x12.ReducesTo [3] S64x325x12
  bcast_S64x325x12x1_S64x325x12x12_0_1_2_3 : S64x325x12x1.BroadcastsInDim S64x325x12x12 (![0, 1, 2, 3] : Fin 4 → Fin S64x325x12x12.rank)
  concatenates_S64x325x12x1_S64x325x12x1_S64x325x12x1_S64x325x12x1_S64x325x12x4_d3 : Shape.Concatenates [S64x325x12x1, S64x325x12x1, S64x325x12x1, S64x325x12x1] S64x325x12x4 3
  dot_S64x325x12x2_S2x32_S64x325x12x32_3_0_012_1_n_n_wf : DotDims.WF S64x325x12x2 S2x32 S64x325x12x32 [3] [0] [0, 1, 2] [1] [] []
  dot_S64x325x12x32_S32x20_S64x325x12x20_3_0_012_1_n_n_wf : DotDims.WF S64x325x12x32 S32x20 S64x325x12x20 [3] [0] [0, 1, 2] [1] [] []
  dot_S64x325x12x20_S20x32_S64x325x12x32_3_0_012_1_n_n_wf : DotDims.WF S64x325x12x20 S20x32 S64x325x12x32 [3] [0] [0, 1, 2] [1] [] []
  dot_S64x325x12x64_S64x32_S64x325x12x32_3_0_012_1_n_n_wf : DotDims.WF S64x325x12x64 S64x32 S64x325x12x32 [3] [0] [0, 1, 2] [1] [] []
  dot_S64x325x12x32_S64x325x32x12_S64x325x12x12_3_2_2_3_01_01_wf : DotDims.WF S64x325x12x32 S64x325x32x12 S64x325x12x12 [3] [2] [2] [3] [0, 1] [0, 1]
  dot_S64x325x12x12_S64x325x12x32_S64x325x12x32_3_2_2_3_01_01_wf : DotDims.WF S64x325x12x12 S64x325x12x32 S64x325x12x32 [3] [2] [2] [3] [0, 1] [0, 1]

variable [Facts]

def dot_S64x325x12x2_S2x32_S64x325x12x32_3_0_012_1_n_n : DotDims S64x325x12x2 S2x32 S64x325x12x32 where
  lhsContracting := [3]
  rhsContracting := [0]
  lhsNonContracting := [0, 1, 2]
  rhsNonContracting := [1]
  lhsBatch := []
  rhsBatch := []
  wf := dot_S64x325x12x2_S2x32_S64x325x12x32_3_0_012_1_n_n_wf
def dot_S64x325x12x32_S32x20_S64x325x12x20_3_0_012_1_n_n : DotDims S64x325x12x32 S32x20 S64x325x12x20 where
  lhsContracting := [3]
  rhsContracting := [0]
  lhsNonContracting := [0, 1, 2]
  rhsNonContracting := [1]
  lhsBatch := []
  rhsBatch := []
  wf := dot_S64x325x12x32_S32x20_S64x325x12x20_3_0_012_1_n_n_wf
def dot_S64x325x12x20_S20x32_S64x325x12x32_3_0_012_1_n_n : DotDims S64x325x12x20 S20x32 S64x325x12x32 where
  lhsContracting := [3]
  rhsContracting := [0]
  lhsNonContracting := [0, 1, 2]
  rhsNonContracting := [1]
  lhsBatch := []
  rhsBatch := []
  wf := dot_S64x325x12x20_S20x32_S64x325x12x32_3_0_012_1_n_n_wf
def dot_S64x325x12x64_S64x32_S64x325x12x32_3_0_012_1_n_n : DotDims S64x325x12x64 S64x32 S64x325x12x32 where
  lhsContracting := [3]
  rhsContracting := [0]
  lhsNonContracting := [0, 1, 2]
  rhsNonContracting := [1]
  lhsBatch := []
  rhsBatch := []
  wf := dot_S64x325x12x64_S64x32_S64x325x12x32_3_0_012_1_n_n_wf
def dot_S64x325x12x32_S64x325x32x12_S64x325x12x12_3_2_2_3_01_01 : DotDims S64x325x12x32 S64x325x32x12 S64x325x12x12 where
  lhsContracting := [3]
  rhsContracting := [2]
  lhsNonContracting := [2]
  rhsNonContracting := [3]
  lhsBatch := [0, 1]
  rhsBatch := [0, 1]
  wf := dot_S64x325x12x32_S64x325x32x12_S64x325x12x12_3_2_2_3_01_01_wf
def dot_S64x325x12x12_S64x325x12x32_S64x325x12x32_3_2_2_3_01_01 : DotDims S64x325x12x12 S64x325x12x32 S64x325x12x32 where
  lhsContracting := [3]
  rhsContracting := [2]
  lhsNonContracting := [2]
  rhsNonContracting := [3]
  lhsBatch := [0, 1]
  rhsBatch := [0, 1]
  wf := dot_S64x325x12x12_S64x325x12x32_S64x325x12x32_3_2_2_3_01_01_wf
def fn_part6 {F : FTy → Type} [FloatOps F] (main_v113 : IVec S64x325x12 1) (main_v114 : IVec S64x325x12x1 1) (main_v115 : IVec S64x325x12x1 1) (main_v116 : IVec S64x325x12x1 1) : IVec S64x325x12x4 1 :=
  let main_v117 : IVec S64x325x12x1 1 := broadcastInDim S64x325x12x1 ![0, 1, 2] bcast_S64x325x12_S64x325x12x1_0_1_2 main_v113
  let main_v118 : IVec S64x325x12x4 1 := concatenate S64x325x12x4 3 [⟨S64x325x12x1, main_v114⟩, ⟨S64x325x12x1, main_v115⟩, ⟨S64x325x12x1, main_v116⟩, ⟨S64x325x12x1, main_v117⟩] concatenates_S64x325x12x1_S64x325x12x1_S64x325x12x1_S64x325x12x1_S64x325x12x4_d3
  main_v118

def fn_part5 {F : FTy → Type} [FloatOps F] (main_v25 : IVec S64x325x12 1) (main_v47 : IVec S64x325x12 1) (main_v69 : IVec S64x325x12 1) (main_v91 : IVec S64x325x12 1) (main_v94 : FVec F S64x325x12x32 .f32) (main_v96 : FVec F S64x325x12x12 .f32) (main_cst_21 : FVec F S_ .f32) : IVec S64x325x12x4 1 :=
  let main_v97 : FVec F S64x325x12 .f32 := (fun x v => Host.reduce FloatOps.maximumf x v reducesTo_S64x325x12x12_S64x325x12_d3 h_S_) main_v96 main_cst_21
  let main_cst_22 : FVec F S_ .f32 := constant S_ .f32 0xFF800000#32
  let main_v98 : FVec F S64x325x12 .f32 := broadcastInDim S64x325x12 ![] bcast_S_S64x325x12 main_cst_22
  let main_v99 : FVec F S64x325x12 .f32 := maximumf main_v98 main_v97
  let main_v100 : FVec F S64x325x12x1 .f32 := broadcastInDim S64x325x12x1 ![0, 1, 2] bcast_S64x325x12_S64x325x12x1_0_1_2 main_v99
  let main_v101 : FVec F S64x325x12x12 .f32 := broadcastInDim S64x325x12x12 ![0, 1, 2, 3] bcast_S64x325x12x1_S64x325x12x12_0_1_2_3 main_v100
  let main_v102 : FVec F S64x325x12x12 .f32 := subf main_v96 main_v101
  let main_v103 : FVec F S64x325x12x12 .f32 := Host.exp main_v102
  let main_cst_23 : FVec F S_ .f32 := constant S_ .f32 0x00000000#32
  let main_v104 : FVec F S64x325x12 .f32 := (fun x v => Host.reduceAdd x v reducesTo_S64x325x12x12_S64x325x12_d3 h_S_) main_v103 main_cst_23
  let main_v105 : FVec F S64x325x12x1 .f32 := broadcastInDim S64x325x12x1 ![0, 1, 2] bcast_S64x325x12_S64x325x12x1_0_1_2 main_v104
  let main_v106 : FVec F S64x325x12x12 .f32 := broadcastInDim S64x325x12x12 ![0, 1, 2, 3] bcast_S64x325x12x1_S64x325x12x12_0_1_2_3 main_v105
  let main_v107 : FVec F S64x325x12x12 .f32 := Host.divf main_v103 main_v106
  let main_v108 : FVec F S64x325x12x32 .f32 := (fun l r => Host.dotGeneral dot_S64x325x12x12_S64x325x12x32_S64x325x12x32_3_2_2_3_01_01 none l r) main_v107 main_v94
  let main_v109 : FVec F S64x325x12x32 .f32 := mulf main_v108 main_v108
  let main_cst_24 : FVec F S_ .f32 := constant S_ .f32 0x00000000#32
  let main_v110 : FVec F S64x325x12 .f32 := (fun x v => Host.reduceAdd x v reducesTo_S64x325x12x32_S64x325x12_d3 h_S_) main_v109 main_cst_24
  let main_cst_25 : FVec F S_ .f32 := constant S_ .f32 0x24E69595#32
  let main_v111 : FVec F S64x325x12 .f32 := broadcastInDim S64x325x12 ![] bcast_S_S64x325x12 main_cst_25
  let main_v112 : IVec S64x325x12 1 := cmpf .oge main_v110 main_v111
  let main_v113 : IVec S64x325x12 1 := andi main_v25 main_v112
  let main_v114 : IVec S64x325x12x1 1 := broadcastInDim S64x325x12x1 ![0, 1, 2] bcast_S64x325x12_S64x325x12x1_0_1_2 main_v47
  let main_v115 : IVec S64x325x12x1 1 := broadcastInDim S64x325x12x1 ![0, 1, 2] bcast_S64x325x12_S64x325x12x1_0_1_2 main_v69
  let main_v116 : IVec S64x325x12x1 1 := broadcastInDim S64x325x12x1 ![0, 1, 2] bcast_S64x325x12_S64x325x12x1_0_1_2 main_v91
  fn_part6 (F := F) main_v113 main_v114 main_v115 main_v116

def fn_part4 {F : FTy → Type} [FloatOps F] (main_arg4 : FVec F S64x325x12x64 .f32) (main_arg10 : FVec F S64x32 .f32) (main_arg14 : FVec F S64x32 .f32) (main_arg18 : FVec F S64x32 .f32) (main_v25 : IVec S64x325x12 1) (main_v47 : IVec S64x325x12 1) (main_v69 : IVec S64x325x12 1) (main_v72 : FVec F S64x325x12x32 .f32) (main_v74 : FVec F S64x325x12x12 .f32) (main_v75 : FVec F S64x325x12 .f32) (main_v76 : FVec F S64x325x12 .f32) : IVec S64x325x12x4 1 :=
  let main_v77 : FVec F S64x325x12 .f32 := maximumf main_v76 main_v75
  let main_v78 : FVec F S64x325x12x1 .f32 := broadcastInDim S64x325x12x1 ![0, 1, 2] bcast_S64x325x12_S64x325x12x1_0_1_2 main_v77
  let main_v79 : FVec F S64x325x12x12 .f32 := broadcastInDim S64x325x12x12 ![0, 1, 2, 3] bcast_S64x325x12x1_S64x325x12x12_0_1_2_3 main_v78
  let main_v80 : FVec F S64x325x12x12 .f32 := subf main_v74 main_v79
  let main_v81 : FVec F S64x325x12x12 .f32 := Host.exp main_v80
  let main_cst_18 : FVec F S_ .f32 := constant S_ .f32 0x00000000#32
  let main_v82 : FVec F S64x325x12 .f32 := (fun x v => Host.reduceAdd x v reducesTo_S64x325x12x12_S64x325x12_d3 h_S_) main_v81 main_cst_18
  let main_v83 : FVec F S64x325x12x1 .f32 := broadcastInDim S64x325x12x1 ![0, 1, 2] bcast_S64x325x12_S64x325x12x1_0_1_2 main_v82
  let main_v84 : FVec F S64x325x12x12 .f32 := broadcastInDim S64x325x12x12 ![0, 1, 2, 3] bcast_S64x325x12x1_S64x325x12x12_0_1_2_3 main_v83
  let main_v85 : FVec F S64x325x12x12 .f32 := Host.divf main_v81 main_v84
  let main_v86 : FVec F S64x325x12x32 .f32 := (fun l r => Host.dotGeneral dot_S64x325x12x12_S64x325x12x32_S64x325x12x32_3_2_2_3_01_01 none l r) main_v85 main_v72
  let main_v87 : FVec F S64x325x12x32 .f32 := mulf main_v86 main_v86
  let main_cst_19 : FVec F S_ .f32 := constant S_ .f32 0x00000000#32
  let main_v88 : FVec F S64x325x12 .f32 := (fun x v => Host.reduceAdd x v reducesTo_S64x325x12x32_S64x325x12_d3 h_S_) main_v87 main_cst_19
  let main_cst_20 : FVec F S_ .f32 := constant S_ .f32 0x24E69595#32
  let main_v89 : FVec F S64x325x12 .f32 := broadcastInDim S64x325x12 ![] bcast_S_S64x325x12 main_cst_20
  let main_v90 : IVec S64x325x12 1 := cmpf .oge main_v88 main_v89
  let main_v91 : IVec S64x325x12 1 := andi main_v25 main_v90
  let main_v92 : FVec F S64x325x12x32 .f32 := (fun l r => Host.dotGeneral dot_S64x325x12x64_S64x32_S64x325x12x32_3_0_012_1_n_n none l r) main_arg4 main_arg10
  let main_v93 : FVec F S64x325x12x32 .f32 := (fun l r => Host.dotGeneral dot_S64x325x12x64_S64x32_S64x325x12x32_3_0_012_1_n_n none l r) main_arg4 main_arg14
  let main_v94 : FVec F S64x325x12x32 .f32 := (fun l r => Host.dotGeneral dot_S64x325x12x64_S64x32_S64x325x12x32_3_0_012_1_n_n none l r) main_arg4 main_arg18
  let main_v95 : FVec F S64x325x32x12 .f32 := (transpose S64x325x32x12 [0, 1, 3, 2] · transposes_S64x325x12x32_S64x325x32x12_0_1_3_2) main_v93
  let main_v96 : FVec F S64x325x12x12 .f32 := (fun l r => Host.dotGeneral dot_S64x325x12x32_S64x325x32x12_S64x325x12x12_3_2_2_3_01_01 none l r) main_v92 main_v95
  let main_cst_21 : FVec F S_ .f32 := constant S_ .f32 0xFF800000#32
  fn_part5 (F := F) main_v25 main_v47 main_v69 main_v91 main_v94 main_v96 main_cst_21

def fn_part3 {F : FTy → Type} [FloatOps F] (main_arg3 : FVec F S64x325x12x64 .f32) (main_arg4 : FVec F S64x325x12x64 .f32) (main_arg9 : FVec F S64x32 .f32) (main_arg10 : FVec F S64x32 .f32) (main_arg13 : FVec F S64x32 .f32) (main_arg14 : FVec F S64x32 .f32) (main_arg17 : FVec F S64x32 .f32) (main_arg18 : FVec F S64x32 .f32) (main_v25 : IVec S64x325x12 1) (main_v47 : IVec S64x325x12 1) (main_v50 : FVec F S64x325x12x32 .f32) (main_v52 : FVec F S64x325x12x12 .f32) (main_v57 : FVec F S64x325x12x12 .f32) : IVec S64x325x12x4 1 :=
  let main_v58 : FVec F S64x325x12x12 .f32 := subf main_v52 main_v57
  let main_v59 : FVec F S64x325x12x12 .f32 := Host.exp main_v58
  let main_cst_13 : FVec F S_ .f32 := constant S_ .f32 0x00000000#32
  let main_v60 : FVec F S64x325x12 .f32 := (fun x v => Host.reduceAdd x v reducesTo_S64x325x12x12_S64x325x12_d3 h_S_) main_v59 main_cst_13
  let main_v61 : FVec F S64x325x12x1 .f32 := broadcastInDim S64x325x12x1 ![0, 1, 2] bcast_S64x325x12_S64x325x12x1_0_1_2 main_v60
  let main_v62 : FVec F S64x325x12x12 .f32 := broadcastInDim S64x325x12x12 ![0, 1, 2, 3] bcast_S64x325x12x1_S64x325x12x12_0_1_2_3 main_v61
  let main_v63 : FVec F S64x325x12x12 .f32 := Host.divf main_v59 main_v62
  let main_v64 : FVec F S64x325x12x32 .f32 := (fun l r => Host.dotGeneral dot_S64x325x12x12_S64x325x12x32_S64x325x12x32_3_2_2_3_01_01 none l r) main_v63 main_v50
  let main_v65 : FVec F S64x325x12x32 .f32 := mulf main_v64 main_v64
  let main_cst_14 : FVec F S_ .f32 := constant S_ .f32 0x00000000#32
  let main_v66 : FVec F S64x325x12 .f32 := (fun x v => Host.reduceAdd x v reducesTo_S64x325x12x32_S64x325x12_d3 h_S_) main_v65 main_cst_14
  let main_cst_15 : FVec F S_ .f32 := constant S_ .f32 0x24E69595#32
  let main_v67 : FVec F S64x325x12 .f32 := broadcastInDim S64x325x12 ![] bcast_S_S64x325x12 main_cst_15
  let main_v68 : IVec S64x325x12 1 := cmpf .oge main_v66 main_v67
  let main_v69 : IVec S64x325x12 1 := andi main_v25 main_v68
  let main_v70 : FVec F S64x325x12x32 .f32 := (fun l r => Host.dotGeneral dot_S64x325x12x64_S64x32_S64x325x12x32_3_0_012_1_n_n none l r) main_arg3 main_arg9
  let main_v71 : FVec F S64x325x12x32 .f32 := (fun l r => Host.dotGeneral dot_S64x325x12x64_S64x32_S64x325x12x32_3_0_012_1_n_n none l r) main_arg3 main_arg13
  let main_v72 : FVec F S64x325x12x32 .f32 := (fun l r => Host.dotGeneral dot_S64x325x12x64_S64x32_S64x325x12x32_3_0_012_1_n_n none l r) main_arg3 main_arg17
  let main_v73 : FVec F S64x325x32x12 .f32 := (transpose S64x325x32x12 [0, 1, 3, 2] · transposes_S64x325x12x32_S64x325x32x12_0_1_3_2) main_v71
  let main_v74 : FVec F S64x325x12x12 .f32 := (fun l r => Host.dotGeneral dot_S64x325x12x32_S64x325x32x12_S64x325x12x12_3_2_2_3_01_01 none l r) main_v70 main_v73
  let main_cst_16 : FVec F S_ .f32 := constant S_ .f32 0xFF800000#32
  let main_v75 : FVec F S64x325x12 .f32 := (fun x v => Host.reduce FloatOps.maximumf x v reducesTo_S64x325x12x12_S64x325x12_d3 h_S_) main_v74 main_cst_16
  let main_cst_17 : FVec F S_ .f32 := constant S_ .f32 0xFF800000#32
  let main_v76 : FVec F S64x325x12 .f32 := broadcastInDim S64x325x12 ![] bcast_S_S64x325x12 main_cst_17
  fn_part4 (F := F) main_arg4 main_arg10 main_arg14 main_arg18 main_v25 main_v47 main_v69 main_v72 main_v74 main_v75 main_v76

def fn_part2 {F : FTy → Type} [FloatOps F] (main_arg2 : FVec F S64x325x12x64 .f32) (main_arg3 : FVec F S64x325x12x64 .f32) (main_arg4 : FVec F S64x325x12x64 .f32) (main_arg8 : FVec F S64x32 .f32) (main_arg9 : FVec F S64x32 .f32) (main_arg10 : FVec F S64x32 .f32) (main_arg12 : FVec F S64x32 .f32) (main_arg13 : FVec F S64x32 .f32) (main_arg14 : FVec F S64x32 .f32) (main_arg16 : FVec F S64x32 .f32) (main_arg17 : FVec F S64x32 .f32) (main_arg18 : FVec F S64x32 .f32) (main_v25 : IVec S64x325x12 1) (main_v28 : FVec F S64x325x12x32 .f32) (main_v37 : FVec F S64x325x12x12 .f32) (main_cst_8 : FVec F S_ .f32) : IVec S64x325x12x4 1 :=
  let main_v38 : FVec F S64x325x12 .f32 := (fun x v => Host.reduceAdd x v reducesTo_S64x325x12x12_S64x325x12_d3 h_S_) main_v37 main_cst_8
  let main_v39 : FVec F S64x325x12x1 .f32 := broadcastInDim S64x325x12x1 ![0, 1, 2] bcast_S64x325x12_S64x325x12x1_0_1_2 main_v38
  let main_v40 : FVec F S64x325x12x12 .f32 := broadcastInDim S64x325x12x12 ![0, 1, 2, 3] bcast_S64x325x12x1_S64x325x12x12_0_1_2_3 main_v39
  let main_v41 : FVec F S64x325x12x12 .f32 := Host.divf main_v37 main_v40
  let main_v42 : FVec F S64x325x12x32 .f32 := (fun l r => Host.dotGeneral dot_S64x325x12x12_S64x325x12x32_S64x325x12x32_3_2_2_3_01_01 none l r) main_v41 main_v28
  let main_v43 : FVec F S64x325x12x32 .f32 := mulf main_v42 main_v42
  let main_cst_9 : FVec F S_ .f32 := constant S_ .f32 0x00000000#32
  let main_v44 : FVec F S64x325x12 .f32 := (fun x v => Host.reduceAdd x v reducesTo_S64x325x12x32_S64x325x12_d3 h_S_) main_v43 main_cst_9
  let main_cst_10 : FVec F S_ .f32 := constant S_ .f32 0x24E69595#32
  let main_v45 : FVec F S64x325x12 .f32 := broadcastInDim S64x325x12 ![] bcast_S_S64x325x12 main_cst_10
  let main_v46 : IVec S64x325x12 1 := cmpf .oge main_v44 main_v45
  let main_v47 : IVec S64x325x12 1 := andi main_v25 main_v46
  let main_v48 : FVec F S64x325x12x32 .f32 := (fun l r => Host.dotGeneral dot_S64x325x12x64_S64x32_S64x325x12x32_3_0_012_1_n_n none l r) main_arg2 main_arg8
  let main_v49 : FVec F S64x325x12x32 .f32 := (fun l r => Host.dotGeneral dot_S64x325x12x64_S64x32_S64x325x12x32_3_0_012_1_n_n none l r) main_arg2 main_arg12
  let main_v50 : FVec F S64x325x12x32 .f32 := (fun l r => Host.dotGeneral dot_S64x325x12x64_S64x32_S64x325x12x32_3_0_012_1_n_n none l r) main_arg2 main_arg16
  let main_v51 : FVec F S64x325x32x12 .f32 := (transpose S64x325x32x12 [0, 1, 3, 2] · transposes_S64x325x12x32_S64x325x32x12_0_1_3_2) main_v49
  let main_v52 : FVec F S64x325x12x12 .f32 := (fun l r => Host.dotGeneral dot_S64x325x12x32_S64x325x32x12_S64x325x12x12_3_2_2_3_01_01 none l r) main_v48 main_v51
  let main_cst_11 : FVec F S_ .f32 := constant S_ .f32 0xFF800000#32
  let main_v53 : FVec F S64x325x12 .f32 := (fun x v => Host.reduce FloatOps.maximumf x v reducesTo_S64x325x12x12_S64x325x12_d3 h_S_) main_v52 main_cst_11
  let main_cst_12 : FVec F S_ .f32 := constant S_ .f32 0xFF800000#32
  let main_v54 : FVec F S64x325x12 .f32 := broadcastInDim S64x325x12 ![] bcast_S_S64x325x12 main_cst_12
  let main_v55 : FVec F S64x325x12 .f32 := maximumf main_v54 main_v53
  let main_v56 : FVec F S64x325x12x1 .f32 := broadcastInDim S64x325x12x1 ![0, 1, 2] bcast_S64x325x12_S64x325x12x1_0_1_2 main_v55
  let main_v57 : FVec F S64x325x12x12 .f32 := broadcastInDim S64x325x12x12 ![0, 1, 2, 3] bcast_S64x325x12x1_S64x325x12x12_0_1_2_3 main_v56
  fn_part3 (F := F) main_arg3 main_arg4 main_arg9 main_arg10 main_arg13 main_arg14 main_arg17 main_arg18 main_v25 main_v47 main_v50 main_v52 main_v57

def fn_part1 {F : FTy → Type} [FloatOps F] (main_arg1 : FVec F S64x325x12x64 .f32) (main_arg2 : FVec F S64x325x12x64 .f32) (main_arg3 : FVec F S64x325x12x64 .f32) (main_arg4 : FVec F S64x325x12x64 .f32) (main_arg7 : FVec F S64x32 .f32) (main_arg8 : FVec F S64x32 .f32) (main_arg9 : FVec F S64x32 .f32) (main_arg10 : FVec F S64x32 .f32) (main_arg11 : FVec F S64x32 .f32) (main_arg12 : FVec F S64x32 .f32) (main_arg13 : FVec F S64x32 .f32) (main_arg14 : FVec F S64x32 .f32) (main_arg15 : FVec F S64x32 .f32) (main_arg16 : FVec F S64x32 .f32) (main_arg17 : FVec F S64x32 .f32) (main_arg18 : FVec F S64x32 .f32) (main_v16 : FVec F S64x325x12x32 .f32) (main_v18 : FVec F S64x325x12 .f32) (main_cst_3 : FVec F S_ .f32) : IVec S64x325x12x4 1 :=
  let main_v19 : FVec F S64x325x12 .f32 := broadcastInDim S64x325x12 ![] bcast_S_S64x325x12 main_cst_3
  let main_v20 : IVec S64x325x12 1 := cmpf .oge main_v18 main_v19
  let main_v21 : FVec F S64x325x12x32 .f32 := mulf main_v16 main_v16
  let main_cst_4 : FVec F S_ .f32 := constant S_ .f32 0x00000000#32
  let main_v22 : FVec F S64x325x12 .f32 := (fun x v => Host.reduceAdd x v reducesTo_S64x325x12x32_S64x325x12_d3 h_S_) main_v21 main_cst_4
  let main_cst_5 : FVec F S_ .f32 := constant S_ .f32 0x24E69595#32
  let main_v23 : FVec F S64x325x12 .f32 := broadcastInDim S64x325x12 ![] bcast_S_S64x325x12 main_cst_5
  let main_v24 : IVec S64x325x12 1 := cmpf .oge main_v22 main_v23
  let main_v25 : IVec S64x325x12 1 := andi main_v20 main_v24
  let main_v26 : FVec F S64x325x12x32 .f32 := (fun l r => Host.dotGeneral dot_S64x325x12x64_S64x32_S64x325x12x32_3_0_012_1_n_n none l r) main_arg1 main_arg7
  let main_v27 : FVec F S64x325x12x32 .f32 := (fun l r => Host.dotGeneral dot_S64x325x12x64_S64x32_S64x325x12x32_3_0_012_1_n_n none l r) main_arg1 main_arg11
  let main_v28 : FVec F S64x325x12x32 .f32 := (fun l r => Host.dotGeneral dot_S64x325x12x64_S64x32_S64x325x12x32_3_0_012_1_n_n none l r) main_arg1 main_arg15
  let main_v29 : FVec F S64x325x32x12 .f32 := (transpose S64x325x32x12 [0, 1, 3, 2] · transposes_S64x325x12x32_S64x325x32x12_0_1_3_2) main_v27
  let main_v30 : FVec F S64x325x12x12 .f32 := (fun l r => Host.dotGeneral dot_S64x325x12x32_S64x325x32x12_S64x325x12x12_3_2_2_3_01_01 none l r) main_v26 main_v29
  let main_cst_6 : FVec F S_ .f32 := constant S_ .f32 0xFF800000#32
  let main_v31 : FVec F S64x325x12 .f32 := (fun x v => Host.reduce FloatOps.maximumf x v reducesTo_S64x325x12x12_S64x325x12_d3 h_S_) main_v30 main_cst_6
  let main_cst_7 : FVec F S_ .f32 := constant S_ .f32 0xFF800000#32
  let main_v32 : FVec F S64x325x12 .f32 := broadcastInDim S64x325x12 ![] bcast_S_S64x325x12 main_cst_7
  let main_v33 : FVec F S64x325x12 .f32 := maximumf main_v32 main_v31
  let main_v34 : FVec F S64x325x12x1 .f32 := broadcastInDim S64x325x12x1 ![0, 1, 2] bcast_S64x325x12_S64x325x12x1_0_1_2 main_v33
  let main_v35 : FVec F S64x325x12x12 .f32 := broadcastInDim S64x325x12x12 ![0, 1, 2, 3] bcast_S64x325x12x1_S64x325x12x12_0_1_2_3 main_v34
  let main_v36 : FVec F S64x325x12x12 .f32 := subf main_v30 main_v35
  let main_v37 : FVec F S64x325x12x12 .f32 := Host.exp main_v36
  let main_cst_8 : FVec F S_ .f32 := constant S_ .f32 0x00000000#32
  fn_part2 (F := F) main_arg2 main_arg3 main_arg4 main_arg8 main_arg9 main_arg10 main_arg12 main_arg13 main_arg14 main_arg16 main_arg17 main_arg18 main_v25 main_v28 main_v37 main_cst_8

def fn {F : FTy → Type} [FloatOps F] (main_arg0 : FVec F S64x325x12x2 .f32) (main_arg1 : FVec F S64x325x12x64 .f32) (main_arg2 : FVec F S64x325x12x64 .f32) (main_arg3 : FVec F S64x325x12x64 .f32) (main_arg4 : FVec F S64x325x12x64 .f32) (main_arg5 : FVec F S20x32 .f32) (main_arg6 : FVec F S2x32 .f32) (main_arg7 : FVec F S64x32 .f32) (main_arg8 : FVec F S64x32 .f32) (main_arg9 : FVec F S64x32 .f32) (main_arg10 : FVec F S64x32 .f32) (main_arg11 : FVec F S64x32 .f32) (main_arg12 : FVec F S64x32 .f32) (main_arg13 : FVec F S64x32 .f32) (main_arg14 : FVec F S64x32 .f32) (main_arg15 : FVec F S64x32 .f32) (main_arg16 : FVec F S64x32 .f32) (main_arg17 : FVec F S64x32 .f32) (main_arg18 : FVec F S64x32 .f32) : IVec S64x325x12x4 1 :=
  let main_v0 : FVec F S64x325x12x32 .f32 := (fun l r => Host.dotGeneral dot_S64x325x12x2_S2x32_S64x325x12x32_3_0_012_1_n_n none l r) main_arg0 main_arg6
  let main_v1 : FVec F S32x20 .f32 := (transpose S32x20 [1, 0] · transposes_S20x32_S32x20_1_0) main_arg5
  let main_v2 : FVec F S64x325x12x20 .f32 := (fun l r => Host.dotGeneral dot_S64x325x12x32_S32x20_S64x325x12x20_3_0_012_1_n_n none l r) main_v0 main_v1
  let main_v3 : FVec F S64x325x12x20 .f32 := Host.exp main_v2
  let main_v4 : FVec F S64x325x12x32 .f32 := (fun l r => Host.dotGeneral dot_S64x325x12x20_S20x32_S64x325x12x32_3_0_012_1_n_n none l r) main_v3 main_arg5
  let main_cst : FVec F S_ .f32 := constant S_ .f32 0xFF800000#32
  let main_v5 : FVec F S64x325x12 .f32 := (fun x v => Host.reduce FloatOps.maximumf x v reducesTo_S64x325x12x20_S64x325x12_d3 h_S_) main_v2 main_cst
  let main_cst_0 : FVec F S_ .f32 := constant S_ .f32 0xFF800000#32
  let main_v6 : FVec F S64x325x12 .f32 := broadcastInDim S64x325x12 ![] bcast_S_S64x325x12 main_cst_0
  let main_v7 : FVec F S64x325x12 .f32 := maximumf main_v6 main_v5
  let main_v8 : FVec F S64x325x12x1 .f32 := broadcastInDim S64x325x12x1 ![0, 1, 2] bcast_S64x325x12_S64x325x12x1_0_1_2 main_v7
  let main_v9 : FVec F S64x325x12x20 .f32 := broadcastInDim S64x325x12x20 ![0, 1, 2, 3] bcast_S64x325x12x1_S64x325x12x20_0_1_2_3 main_v8
  let main_v10 : FVec F S64x325x12x20 .f32 := subf main_v2 main_v9
  let main_v11 : FVec F S64x325x12x20 .f32 := Host.exp main_v10
  let main_cst_1 : FVec F S_ .f32 := constant S_ .f32 0x00000000#32
  let main_v12 : FVec F S64x325x12 .f32 := (fun x v => Host.reduceAdd x v reducesTo_S64x325x12x20_S64x325x12_d3 h_S_) main_v11 main_cst_1
  let main_v13 : FVec F S64x325x12x1 .f32 := broadcastInDim S64x325x12x1 ![0, 1, 2] bcast_S64x325x12_S64x325x12x1_0_1_2 main_v12
  let main_v14 : FVec F S64x325x12x20 .f32 := broadcastInDim S64x325x12x20 ![0, 1, 2, 3] bcast_S64x325x12x1_S64x325x12x20_0_1_2_3 main_v13
  let main_v15 : FVec F S64x325x12x20 .f32 := Host.divf main_v11 main_v14
  let main_v16 : FVec F S64x325x12x32 .f32 := (fun l r => Host.dotGeneral dot_S64x325x12x20_S20x32_S64x325x12x32_3_0_012_1_n_n none l r) main_v15 main_arg5
  let main_v17 : FVec F S64x325x12x32 .f32 := mulf main_v4 main_v4
  let main_cst_2 : FVec F S_ .f32 := constant S_ .f32 0x00000000#32
  let main_v18 : FVec F S64x325x12 .f32 := (fun x v => Host.reduceAdd x v reducesTo_S64x325x12x32_S64x325x12_d3 h_S_) main_v17 main_cst_2
  let main_cst_3 : FVec F S_ .f32 := constant S_ .f32 0x24E69595#32
  fn_part1 (F := F) main_arg1 main_arg2 main_arg3 main_arg4 main_arg7 main_arg8 main_arg9 main_arg10 main_arg11 main_arg12 main_arg13 main_arg14 main_arg15 main_arg16 main_arg17 main_arg18 main_v16 main_v18 main_cst_3
-- ==== Pre_unclamped.lean ====
abbrev S64x325x12x2 : Shape := ⟨4, ![64, 325, 12, 2]⟩
abbrev S64x325x12x64 : Shape := ⟨4, ![64, 325, 12, 64]⟩
abbrev S20x32 : Shape := ⟨2, ![20, 32]⟩
abbrev S2x32 : Shape := ⟨2, ![2, 32]⟩
abbrev S64x32 : Shape := ⟨2, ![64, 32]⟩
abbrev S64x325x12x32 : Shape := ⟨4, ![64, 325, 12, 32]⟩
abbrev S32x20 : Shape := ⟨2, ![32, 20]⟩
abbrev S64x325x12x20 : Shape := ⟨4, ![64, 325, 12, 20]⟩
abbrev S_ : Shape := ⟨0, ![]⟩
abbrev S64x325x12 : Shape := ⟨3, ![64, 325, 12]⟩
abbrev S64x325x12x1 : Shape := ⟨4, ![64, 325, 12, 1]⟩
abbrev S64x325x32x12 : Shape := ⟨4, ![64, 325, 32, 12]⟩
abbrev S64x325x12x12 : Shape := ⟨4, ![64, 325, 12, 12]⟩
abbrev S64x325x12x4 : Shape := ⟨4, ![64, 325, 12, 4]⟩

class Facts : Prop where
  transposes_S20x32_S32x20_1_0 : S20x32.Transposes [1, 0] S32x20
  reducesTo_S64x325x12x20_S64x325x12_d3 : S64x325x12x20.ReducesTo [3] S64x325x12
  h_S_ : 0 < S_.numel
  bcast_S_S64x325x12 : S_.BroadcastsInDim S64x325x12 (![] : Fin 0 → Fin S64x325x12.rank)
  bcast_S64x325x12_S64x325x12x1_0_1_2 : S64x325x12.BroadcastsInDim S64x325x12x1 (![0, 1, 2] : Fin 3 → Fin S64x325x12x1.rank)
  bcast_S64x325x12x1_S64x325x12x20_0_1_2_3 : S64x325x12x1.BroadcastsInDim S64x325x12x20 (![0, 1, 2, 3] : Fin 4 → Fin S64x325x12x20.rank)
  reducesTo_S64x325x12x32_S64x325x12_d3 : S64x325x12x32.ReducesTo [3] S64x325x12
  transposes_S64x325x12x32_S64x325x32x12_0_1_3_2 : S64x325x12x32.Transposes [0, 1, 3, 2] S64x325x32x12
  reducesTo_S64x325x12x12_S64x325x12_d3 : S64x325x12x12.ReducesTo [3] S64x325x12
  bcast_S64x325x12x1_S64x325x12x12_0_1_2_3 : S64x325x12x1.BroadcastsInDim S64x325x12x12 (![0, 1, 2, 3] : Fin 4 → Fin S64x325x12x12.rank)
  concatenates_S64x325x12x1_S64x325x12x1_S64x325x12x1_S64x325x12x1_S64x325x12x4_d3 : Shape.Concatenates [S64x325x12x1, S64x325x12x1, S64x325x12x1, S64x325x12x1] S64x325x12x4 3
  dot_S64x325x12x2_S2x32_S64x325x12x32_3_0_012_1_n_n_wf : DotDims.WF S64x325x12x2 S2x32 S64x325x12x32 [3] [0] [0, 1, 2] [1] [] []
  dot_S64x325x12x32_S32x20_S64x325x12x20_3_0_012_1_n_n_wf : DotDims.WF S64x325x12x32 S32x20 S64x325x12x20 [3] [0] [0, 1, 2] [1] [] []
  dot_S64x325x12x20_S20x32_S64x325x12x32_3_0_012_1_n_n_wf : DotDims.WF S64x325x12x20 S20x32 S64x325x12x32 [3] [0] [0, 1, 2] [1] [] []
  dot_S64x325x12x64_S64x32_S64x325x12x32_3_0_012_1_n_n_wf : DotDims.WF S64x325x12x64 S64x32 S64x325x12x32 [3] [0] [0, 1, 2] [1] [] []
  dot_S64x325x12x32_S64x325x32x12_S64x325x12x12_3_2_2_3_01_01_wf : DotDims.WF S64x325x12x32 S64x325x32x12 S64x325x12x12 [3] [2] [2] [3] [0, 1] [0, 1]
  dot_S64x325x12x12_S64x325x12x32_S64x325x12x32_3_2_2_3_01_01_wf : DotDims.WF S64x325x12x12 S64x325x12x32 S64x325x12x32 [3] [2] [2] [3] [0, 1] [0, 1]

variable [Facts]

def dot_S64x325x12x2_S2x32_S64x325x12x32_3_0_012_1_n_n : DotDims S64x325x12x2 S2x32 S64x325x12x32 where
  lhsContracting := [3]
  rhsContracting := [0]
  lhsNonContracting := [0, 1, 2]
  rhsNonContracting := [1]
  lhsBatch := []
  rhsBatch := []
  wf := dot_S64x325x12x2_S2x32_S64x325x12x32_3_0_012_1_n_n_wf
def dot_S64x325x12x32_S32x20_S64x325x12x20_3_0_012_1_n_n : DotDims S64x325x12x32 S32x20 S64x325x12x20 where
  lhsContracting := [3]
  rhsContracting := [0]
  lhsNonContracting := [0, 1, 2]
  rhsNonContracting := [1]
  lhsBatch := []
  rhsBatch := []
  wf := dot_S64x325x12x32_S32x20_S64x325x12x20_3_0_012_1_n_n_wf
def dot_S64x325x12x20_S20x32_S64x325x12x32_3_0_012_1_n_n : DotDims S64x325x12x20 S20x32 S64x325x12x32 where
  lhsContracting := [3]
  rhsContracting := [0]
  lhsNonContracting := [0, 1, 2]
  rhsNonContracting := [1]
  lhsBatch := []
  rhsBatch := []
  wf := dot_S64x325x12x20_S20x32_S64x325x12x32_3_0_012_1_n_n_wf
def dot_S64x325x12x64_S64x32_S64x325x12x32_3_0_012_1_n_n : DotDims S64x325x12x64 S64x32 S64x325x12x32 where
  lhsContracting := [3]
  rhsContracting := [0]
  lhsNonContracting := [0, 1, 2]
  rhsNonContracting := [1]
  lhsBatch := []
  rhsBatch := []
  wf := dot_S64x325x12x64_S64x32_S64x325x12x32_3_0_012_1_n_n_wf
def dot_S64x325x12x32_S64x325x32x12_S64x325x12x12_3_2_2_3_01_01 : DotDims S64x325x12x32 S64x325x32x12 S64x325x12x12 where
  lhsContracting := [3]
  rhsContracting := [2]
  lhsNonContracting := [2]
  rhsNonContracting := [3]
  lhsBatch := [0, 1]
  rhsBatch := [0, 1]
  wf := dot_S64x325x12x32_S64x325x32x12_S64x325x12x12_3_2_2_3_01_01_wf
def dot_S64x325x12x12_S64x325x12x32_S64x325x12x32_3_2_2_3_01_01 : DotDims S64x325x12x12 S64x325x12x32 S64x325x12x32 where
  lhsContracting := [3]
  rhsContracting := [2]
  lhsNonContracting := [2]
  rhsNonContracting := [3]
  lhsBatch := [0, 1]
  rhsBatch := [0, 1]
  wf := dot_S64x325x12x12_S64x325x12x32_S64x325x12x32_3_2_2_3_01_01_wf
def fn_part6 {F : FTy → Type} [FloatOps F] (main_v113 : IVec S64x325x12 1) (main_v114 : IVec S64x325x12x1 1) (main_v115 : IVec S64x325x12x1 1) (main_v116 : IVec S64x325x12x1 1) : IVec S64x325x12x4 1 :=
  let main_v117 : IVec S64x325x12x1 1 := broadcastInDim S64x325x12x1 ![0, 1, 2] bcast_S64x325x12_S64x325x12x1_0_1_2 main_v113
  let main_v118 : IVec S64x325x12x4 1 := concatenate S64x325x12x4 3 [⟨S64x325x12x1, main_v114⟩, ⟨S64x325x12x1, main_v115⟩, ⟨S64x325x12x1, main_v116⟩, ⟨S64x325x12x1, main_v117⟩] concatenates_S64x325x12x1_S64x325x12x1_S64x325x12x1_S64x325x12x1_S64x325x12x4_d3
  main_v118

def fn_part5 {F : FTy → Type} [FloatOps F] (main_v25 : IVec S64x325x12 1) (main_v47 : IVec S64x325x12 1) (main_v69 : IVec S64x325x12 1) (main_v91 : IVec S64x325x12 1) (main_v94 : FVec F S64x325x12x32 .f32) (main_v96 : FVec F S64x325x12x12 .f32) (main_cst_21 : FVec F S_ .f32) : IVec S64x325x12x4 1 :=
  let main_v97 : FVec F S64x325x12 .f32 := (fun x v => Host.reduce FloatOps.maximumf x v reducesTo_S64x325x12x12_S64x325x12_d3 h_S_) main_v96 main_cst_21
  let main_cst_22 : FVec F S_ .f32 := constant S_ .f32 0xFF800000#32
  let main_v98 : FVec F S64x325x12 .f32 := broadcastInDim S64x325x12 ![] bcast_S_S64x325x12 main_cst_22
  let main_v99 : FVec F S64x325x12 .f32 := maximumf main_v98 main_v97
  let main_v100 : FVec F S64x325x12x1 .f32 := broadcastInDim S64x325x12x1 ![0, 1, 2] bcast_S64x325x12_S64x325x12x1_0_1_2 main_v99
  let main_v101 : FVec F S64x325x12x12 .f32 := broadcastInDim S64x325x12x12 ![0, 1, 2, 3] bcast_S64x325x12x1_S64x325x12x12_0_1_2_3 main_v100
  let main_v102 : FVec F S64x325x12x12 .f32 := subf main_v96 main_v101
  let main_v103 : FVec F S64x325x12x12 .f32 := Host.exp main_v102
  let main_cst_23 : FVec F S_ .f32 := constant S_ .f32 0x00000000#32
  let main_v104 : FVec F S64x325x12 .f32 := (fun x v => Host.reduceAdd x v reducesTo_S64x325x12x12_S64x325x12_d3 h_S_) main_v103 main_cst_23
  let main_v105 : FVec F S64x325x12x1 .f32 := broadcastInDim S64x325x12x1 ![0, 1, 2] bcast_S64x325x12_S64x325x12x1_0_1_2 main_v104
  let main_v106 : FVec F S64x325x12x12 .f32 := broadcastInDim S64x325x12x12 ![0, 1, 2, 3] bcast_S64x325x12x1_S64x325x12x12_0_1_2_3 main_v105
  let main_v107 : FVec F S64x325x12x12 .f32 := Host.divf main_v103 main_v106
  let main_v108 : FVec F S64x325x12x32 .f32 := (fun l r => Host.dotGeneral dot_S64x325x12x12_S64x325x12x32_S64x325x12x32_3_2_2_3_01_01 none l r) main_v107 main_v94
  let main_v109 : FVec F S64x325x12x32 .f32 := mulf main_v108 main_v108
  let main_cst_24 : FVec F S_ .f32 := constant S_ .f32 0x00000000#32
  let main_v110 : FVec F S64x325x12 .f32 := (fun x v => Host.reduceAdd x v reducesTo_S64x325x12x32_S64x325x12_d3 h_S_) main_v109 main_cst_24
  let main_cst_25 : FVec F S_ .f32 := constant S_ .f32 0x24E69595#32
  let main_v111 : FVec F S64x325x12 .f32 := broadcastInDim S64x325x12 ![] bcast_S_S64x325x12 main_cst_25
  let main_v112 : IVec S64x325x12 1 := cmpf .oge main_v110 main_v111
  let main_v113 : IVec S64x325x12 1 := andi main_v25 main_v112
  let main_v114 : IVec S64x325x12x1 1 := broadcastInDim S64x325x12x1 ![0, 1, 2] bcast_S64x325x12_S64x325x12x1_0_1_2 main_v47
  let main_v115 : IVec S64x325x12x1 1 := broadcastInDim S64x325x12x1 ![0, 1, 2] bcast_S64x325x12_S64x325x12x1_0_1_2 main_v69
  let main_v116 : IVec S64x325x12x1 1 := broadcastInDim S64x325x12x1 ![0, 1, 2] bcast_S64x325x12_S64x325x12x1_0_1_2 main_v91
  fn_part6 (F := F) main_v113 main_v114 main_v115 main_v116

def fn_part4 {F : FTy → Type} [FloatOps F] (main_arg4 : FVec F S64x325x12x64 .f32) (main_arg10 : FVec F S64x32 .f32) (main_arg14 : FVec F S64x32 .f32) (main_arg18 : FVec F S64x32 .f32) (main_v25 : IVec S64x325x12 1) (main_v47 : IVec S64x325x12 1) (main_v69 : IVec S64x325x12 1) (main_v72 : FVec F S64x325x12x32 .f32) (main_v74 : FVec F S64x325x12x12 .f32) (main_v75 : FVec F S64x325x12 .f32) (main_v76 : FVec F S64x325x12 .f32) : IVec S64x325x12x4 1 :=
  let main_v77 : FVec F S64x325x12 .f32 := maximumf main_v76 main_v75
  let main_v78 : FVec F S64x325x12x1 .f32 := broadcastInDim S64x325x12x1 ![0, 1, 2] bcast_S64x325x12_S64x325x12x1_0_1_2 main_v77
  let main_v79 : FVec F S64x325x12x12 .f32 := broadcastInDim S64x325x12x12 ![0, 1, 2, 3] bcast_S64x325x12x1_S64x325x12x12_0_1_2_3 main_v78
  let main_v80 : FVec F S64x325x12x12 .f32 := subf main_v74 main_v79
  let main_v81 : FVec F S64x325x12x12 .f32 := Host.exp main_v80
  let main_cst_18 : FVec F S_ .f32 := constant S_ .f32 0x00000000#32
  let main_v82 : FVec F S64x325x12 .f32 := (fun x v => Host.reduceAdd x v reducesTo_S64x325x12x12_S64x325x12_d3 h_S_) main_v81 main_cst_18
  let main_v83 : FVec F S64x325x12x1 .f32 := broadcastInDim S64x325x12x1 ![0, 1, 2] bcast_S64x325x12_S64x325x12x1_0_1_2 main_v82
  let main_v84 : FVec F S64x325x12x12 .f32 := broadcastInDim S64x325x12x12 ![0, 1, 2, 3] bcast_S64x325x12x1_S64x325x12x12_0_1_2_3 main_v83
  let main_v85 : FVec F S64x325x12x12 .f32 := Host.divf main_v81 main_v84
  let main_v86 : FVec F S64x325x12x32 .f32 := (fun l r => Host.dotGeneral dot_S64x325x12x12_S64x325x12x32_S64x325x12x32_3_2_2_3_01_01 none l r) main_v85 main_v72
  let main_v87 : FVec F S64x325x12x32 .f32 := mulf main_v86 main_v86
  let main_cst_19 : FVec F S_ .f32 := constant S_ .f32 0x00000000#32
  let main_v88 : FVec F S64x325x12 .f32 := (fun x v => Host.reduceAdd x v reducesTo_S64x325x12x32_S64x325x12_d3 h_S_) main_v87 main_cst_19
  let main_cst_20 : FVec F S_ .f32 := constant S_ .f32 0x24E69595#32
  let main_v89 : FVec F S64x325x12 .f32 := broadcastInDim S64x325x12 ![] bcast_S_S64x325x12 main_cst_20
  let main_v90 : IVec S64x325x12 1 := cmpf .oge main_v88 main_v89
  let main_v91 : IVec S64x325x12 1 := andi main_v25 main_v90
  let main_v92 : FVec F S64x325x12x32 .f32 := (fun l r => Host.dotGeneral dot_S64x325x12x64_S64x32_S64x325x12x32_3_0_012_1_n_n none l r) main_arg4 main_arg10
  let main_v93 : FVec F S64x325x12x32 .f32 := (fun l r => Host.dotGeneral dot_S64x325x12x64_S64x32_S64x325x12x32_3_0_012_1_n_n none l r) main_arg4 main_arg14
  let main_v94 : FVec F S64x325x12x32 .f32 := (fun l r => Host.dotGeneral dot_S64x325x12x64_S64x32_S64x325x12x32_3_0_012_1_n_n none l r) main_arg4 main_arg18
  let main_v95 : FVec F S64x325x32x12 .f32 := (transpose S64x325x32x12 [0, 1, 3, 2] · transposes_S64x325x12x32_S64x325x32x12_0_1_3_2) main_v93
  let main_v96 : FVec F S64x325x12x12 .f32 := (fun l r => Host.dotGeneral dot_S64x325x12x32_S64x325x32x12_S64x325x12x12_3_2_2_3_01_01 none l r) main_v92 main_v95
  let main_cst_21 : FVec F S_ .f32 := constant S_ .f32 0xFF800000#32
  fn_part5 (F := F) main_v25 main_v47 main_v69 main_v91 main_v94 main_v96 main_cst_21

def fn_part3 {F : FTy → Type} [FloatOps F] (main_arg3 : FVec F S64x325x12x64 .f32) (main_arg4 : FVec F S64x325x12x64 .f32) (main_arg9 : FVec F S64x32 .f32) (main_arg10 : FVec F S64x32 .f32) (main_arg13 : FVec F S64x32 .f32) (main_arg14 : FVec F S64x32 .f32) (main_arg17 : FVec F S64x32 .f32) (main_arg18 : FVec F S64x32 .f32) (main_v25 : IVec S64x325x12 1) (main_v47 : IVec S64x325x12 1) (main_v50 : FVec F S64x325x12x32 .f32) (main_v52 : FVec F S64x325x12x12 .f32) (main_v57 : FVec F S64x325x12x12 .f32) : IVec S64x325x12x4 1 :=
  let main_v58 : FVec F S64x325x12x12 .f32 := subf main_v52 main_v57
  let main_v59 : FVec F S64x325x12x12 .f32 := Host.exp main_v58
  let main_cst_13 : FVec F S_ .f32 := constant S_ .f32 0x00000000#32
  let main_v60 : FVec F S64x325x12 .f32 := (fun x v => Host.reduceAdd x v reducesTo_S64x325x12x12_S64x325x12_d3 h_S_) main_v59 main_cst_13
  let main_v61 : FVec F S64x325x12x1 .f32 := broadcastInDim S64x325x12x1 ![0, 1, 2] bcast_S64x325x12_S64x325x12x1_0_1_2 main_v60
  let main_v62 : FVec F S64x325x12x12 .f32 := broadcastInDim S64x325x12x12 ![0, 1, 2, 3] bcast_S64x325x12x1_S64x325x12x12_0_1_2_3 main_v61
  let main_v63 : FVec F S64x325x12x12 .f32 := Host.divf main_v59 main_v62
  let main_v64 : FVec F S64x325x12x32 .f32 := (fun l r => Host.dotGeneral dot_S64x325x12x12_S64x325x12x32_S64x325x12x32_3_2_2_3_01_01 none l r) main_v63 main_v50
  let main_v65 : FVec F S64x325x12x32 .f32 := mulf main_v64 main_v64
  let main_cst_14 : FVec F S_ .f32 := constant S_ .f32 0x00000000#32
  let main_v66 : FVec F S64x325x12 .f32 := (fun x v => Host.reduceAdd x v reducesTo_S64x325x12x32_S64x325x12_d3 h_S_) main_v65 main_cst_14
  let main_cst_15 : FVec F S_ .f32 := constant S_ .f32 0x24E69595#32
  let main_v67 : FVec F S64x325x12 .f32 := broadcastInDim S64x325x12 ![] bcast_S_S64x325x12 main_cst_15
  let main_v68 : IVec S64x325x12 1 := cmpf .oge main_v66 main_v67
  let main_v69 : IVec S64x325x12 1 := andi main_v25 main_v68
  let main_v70 : FVec F S64x325x12x32 .f32 := (fun l r => Host.dotGeneral dot_S64x325x12x64_S64x32_S64x325x12x32_3_0_012_1_n_n none l r) main_arg3 main_arg9
  let main_v71 : FVec F S64x325x12x32 .f32 := (fun l r => Host.dotGeneral dot_S64x325x12x64_S64x32_S64x325x12x32_3_0_012_1_n_n none l r) main_arg3 main_arg13
  let main_v72 : FVec F S64x325x12x32 .f32 := (fun l r => Host.dotGeneral dot_S64x325x12x64_S64x32_S64x325x12x32_3_0_012_1_n_n none l r) main_arg3 main_arg17
  let main_v73 : FVec F S64x325x32x12 .f32 := (transpose S64x325x32x12 [0, 1, 3, 2] · transposes_S64x325x12x32_S64x325x32x12_0_1_3_2) main_v71
  let main_v74 : FVec F S64x325x12x12 .f32 := (fun l r => Host.dotGeneral dot_S64x325x12x32_S64x325x32x12_S64x325x12x12_3_2_2_3_01_01 none l r) main_v70 main_v73
  let main_cst_16 : FVec F S_ .f32 := constant S_ .f32 0xFF800000#32
  let main_v75 : FVec F S64x325x12 .f32 := (fun x v => Host.reduce FloatOps.maximumf x v reducesTo_S64x325x12x12_S64x325x12_d3 h_S_) main_v74 main_cst_16
  let main_cst_17 : FVec F S_ .f32 := constant S_ .f32 0xFF800000#32
  let main_v76 : FVec F S64x325x12 .f32 := broadcastInDim S64x325x12 ![] bcast_S_S64x325x12 main_cst_17
  fn_part4 (F := F) main_arg4 main_arg10 main_arg14 main_arg18 main_v25 main_v47 main_v69 main_v72 main_v74 main_v75 main_v76

def fn_part2 {F : FTy → Type} [FloatOps F] (main_arg2 : FVec F S64x325x12x64 .f32) (main_arg3 : FVec F S64x325x12x64 .f32) (main_arg4 : FVec F S64x325x12x64 .f32) (main_arg8 : FVec F S64x32 .f32) (main_arg9 : FVec F S64x32 .f32) (main_arg10 : FVec F S64x32 .f32) (main_arg12 : FVec F S64x32 .f32) (main_arg13 : FVec F S64x32 .f32) (main_arg14 : FVec F S64x32 .f32) (main_arg16 : FVec F S64x32 .f32) (main_arg17 : FVec F S64x32 .f32) (main_arg18 : FVec F S64x32 .f32) (main_v25 : IVec S64x325x12 1) (main_v28 : FVec F S64x325x12x32 .f32) (main_v37 : FVec F S64x325x12x12 .f32) (main_cst_8 : FVec F S_ .f32) : IVec S64x325x12x4 1 :=
  let main_v38 : FVec F S64x325x12 .f32 := (fun x v => Host.reduceAdd x v reducesTo_S64x325x12x12_S64x325x12_d3 h_S_) main_v37 main_cst_8
  let main_v39 : FVec F S64x325x12x1 .f32 := broadcastInDim S64x325x12x1 ![0, 1, 2] bcast_S64x325x12_S64x325x12x1_0_1_2 main_v38
  let main_v40 : FVec F S64x325x12x12 .f32 := broadcastInDim S64x325x12x12 ![0, 1, 2, 3] bcast_S64x325x12x1_S64x325x12x12_0_1_2_3 main_v39
  let main_v41 : FVec F S64x325x12x12 .f32 := Host.divf main_v37 main_v40
  let main_v42 : FVec F S64x325x12x32 .f32 := (fun l r => Host.dotGeneral dot_S64x325x12x12_S64x325x12x32_S64x325x12x32_3_2_2_3_01_01 none l r) main_v41 main_v28
  let main_v43 : FVec F S64x325x12x32 .f32 := mulf main_v42 main_v42
  let main_cst_9 : FVec F S_ .f32 := constant S_ .f32 0x00000000#32
  let main_v44 : FVec F S64x325x12 .f32 := (fun x v => Host.reduceAdd x v reducesTo_S64x325x12x32_S64x325x12_d3 h_S_) main_v43 main_cst_9
  let main_cst_10 : FVec F S_ .f32 := constant S_ .f32 0x24E69595#32
  let main_v45 : FVec F S64x325x12 .f32 := broadcastInDim S64x325x12 ![] bcast_S_S64x325x12 main_cst_10
  let main_v46 : IVec S64x325x12 1 := cmpf .oge main_v44 main_v45
  let main_v47 : IVec S64x325x12 1 := andi main_v25 main_v46
  let main_v48 : FVec F S64x325x12x32 .f32 := (fun l r => Host.dotGeneral dot_S64x325x12x64_S64x32_S64x325x12x32_3_0_012_1_n_n none l r) main_arg2 main_arg8
  let main_v49 : FVec F S64x325x12x32 .f32 := (fun l r => Host.dotGeneral dot_S64x325x12x64_S64x32_S64x325x12x32_3_0_012_1_n_n none l r) main_arg2 main_arg12
  let main_v50 : FVec F S64x325x12x32 .f32 := (fun l r => Host.dotGeneral dot_S64x325x12x64_S64x32_S64x325x12x32_3_0_012_1_n_n none l r) main_arg2 main_arg16
  let main_v51 : FVec F S64x325x32x12 .f32 := (transpose S64x325x32x12 [0, 1, 3, 2] · transposes_S64x325x12x32_S64x325x32x12_0_1_3_2) main_v49
  let main_v52 : FVec F S64x325x12x12 .f32 := (fun l r => Host.dotGeneral dot_S64x325x12x32_S64x325x32x12_S64x325x12x12_3_2_2_3_01_01 none l r) main_v48 main_v51
  let main_cst_11 : FVec F S_ .f32 := constant S_ .f32 0xFF800000#32
  let main_v53 : FVec F S64x325x12 .f32 := (fun x v => Host.reduce FloatOps.maximumf x v reducesTo_S64x325x12x12_S64x325x12_d3 h_S_) main_v52 main_cst_11
  let main_cst_12 : FVec F S_ .f32 := constant S_ .f32 0xFF800000#32
  let main_v54 : FVec F S64x325x12 .f32 := broadcastInDim S64x325x12 ![] bcast_S_S64x325x12 main_cst_12
  let main_v55 : FVec F S64x325x12 .f32 := maximumf main_v54 main_v53
  let main_v56 : FVec F S64x325x12x1 .f32 := broadcastInDim S64x325x12x1 ![0, 1, 2] bcast_S64x325x12_S64x325x12x1_0_1_2 main_v55
  let main_v57 : FVec F S64x325x12x12 .f32 := broadcastInDim S64x325x12x12 ![0, 1, 2, 3] bcast_S64x325x12x1_S64x325x12x12_0_1_2_3 main_v56
  fn_part3 (F := F) main_arg3 main_arg4 main_arg9 main_arg10 main_arg13 main_arg14 main_arg17 main_arg18 main_v25 main_v47 main_v50 main_v52 main_v57

def fn_part1 {F : FTy → Type} [FloatOps F] (main_arg1 : FVec F S64x325x12x64 .f32) (main_arg2 : FVec F S64x325x12x64 .f32) (main_arg3 : FVec F S64x325x12x64 .f32) (main_arg4 : FVec F S64x325x12x64 .f32) (main_arg7 : FVec F S64x32 .f32) (main_arg8 : FVec F S64x32 .f32) (main_arg9 : FVec F S64x32 .f32) (main_arg10 : FVec F S64x32 .f32) (main_arg11 : FVec F S64x32 .f32) (main_arg12 : FVec F S64x32 .f32) (main_arg13 : FVec F S64x32 .f32) (main_arg14 : FVec F S64x32 .f32) (main_arg15 : FVec F S64x32 .f32) (main_arg16 : FVec F S64x32 .f32) (main_arg17 : FVec F S64x32 .f32) (main_arg18 : FVec F S64x32 .f32) (main_v16 : FVec F S64x325x12x32 .f32) (main_v18 : FVec F S64x325x12 .f32) (main_cst_3 : FVec F S_ .f32) : IVec S64x325x12x4 1 :=
  let main_v19 : FVec F S64x325x12 .f32 := broadcastInDim S64x325x12 ![] bcast_S_S64x325x12 main_cst_3
  let main_v20 : IVec S64x325x12 1 := cmpf .oge main_v18 main_v19
  let main_v21 : FVec F S64x325x12x32 .f32 := mulf main_v16 main_v16
  let main_cst_4 : FVec F S_ .f32 := constant S_ .f32 0x00000000#32
  let main_v22 : FVec F S64x325x12 .f32 := (fun x v => Host.reduceAdd x v reducesTo_S64x325x12x32_S64x325x12_d3 h_S_) main_v21 main_cst_4
  let main_cst_5 : FVec F S_ .f32 := constant S_ .f32 0x24E69595#32
  let main_v23 : FVec F S64x325x12 .f32 := broadcastInDim S64x325x12 ![] bcast_S_S64x325x12 main_cst_5
  let main_v24 : IVec S64x325x12 1 := cmpf .oge main_v22 main_v23
  let main_v25 : IVec S64x325x12 1 := andi main_v20 main_v24
  let main_v26 : FVec F S64x325x12x32 .f32 := (fun l r => Host.dotGeneral dot_S64x325x12x64_S64x32_S64x325x12x32_3_0_012_1_n_n none l r) main_arg1 main_arg7
  let main_v27 : FVec F S64x325x12x32 .f32 := (fun l r => Host.dotGeneral dot_S64x325x12x64_S64x32_S64x325x12x32_3_0_012_1_n_n none l r) main_arg1 main_arg11
  let main_v28 : FVec F S64x325x12x32 .f32 := (fun l r => Host.dotGeneral dot_S64x325x12x64_S64x32_S64x325x12x32_3_0_012_1_n_n none l r) main_arg1 main_arg15
  let main_v29 : FVec F S64x325x32x12 .f32 := (transpose S64x325x32x12 [0, 1, 3, 2] · transposes_S64x325x12x32_S64x325x32x12_0_1_3_2) main_v27
  let main_v30 : FVec F S64x325x12x12 .f32 := (fun l r => Host.dotGeneral dot_S64x325x12x32_S64x325x32x12_S64x325x12x12_3_2_2_3_01_01 none l r) main_v26 main_v29
  let main_cst_6 : FVec F S_ .f32 := constant S_ .f32 0xFF800000#32
  let main_v31 : FVec F S64x325x12 .f32 := (fun x v => Host.reduce FloatOps.maximumf x v reducesTo_S64x325x12x12_S64x325x12_d3 h_S_) main_v30 main_cst_6
  let main_cst_7 : FVec F S_ .f32 := constant S_ .f32 0xFF800000#32
  let main_v32 : FVec F S64x325x12 .f32 := broadcastInDim S64x325x12 ![] bcast_S_S64x325x12 main_cst_7
  let main_v33 : FVec F S64x325x12 .f32 := maximumf main_v32 main_v31
  let main_v34 : FVec F S64x325x12x1 .f32 := broadcastInDim S64x325x12x1 ![0, 1, 2] bcast_S64x325x12_S64x325x12x1_0_1_2 main_v33
  let main_v35 : FVec F S64x325x12x12 .f32 := broadcastInDim S64x325x12x12 ![0, 1, 2, 3] bcast_S64x325x12x1_S64x325x12x12_0_1_2_3 main_v34
  let main_v36 : FVec F S64x325x12x12 .f32 := subf main_v30 main_v35
  let main_v37 : FVec F S64x325x12x12 .f32 := Host.exp main_v36
  let main_cst_8 : FVec F S_ .f32 := constant S_ .f32 0x00000000#32
  fn_part2 (F := F) main_arg2 main_arg3 main_arg4 main_arg8 main_arg9 main_arg10 main_arg12 main_arg13 main_arg14 main_arg16 main_arg17 main_arg18 main_v25 main_v28 main_v37 main_cst_8

def fn {F : FTy → Type} [FloatOps F] (main_arg0 : FVec F S64x325x12x2 .f32) (main_arg1 : FVec F S64x325x12x64 .f32) (main_arg2 : FVec F S64x325x12x64 .f32) (main_arg3 : FVec F S64x325x12x64 .f32) (main_arg4 : FVec F S64x325x12x64 .f32) (main_arg5 : FVec F S20x32 .f32) (main_arg6 : FVec F S2x32 .f32) (main_arg7 : FVec F S64x32 .f32) (main_arg8 : FVec F S64x32 .f32) (main_arg9 : FVec F S64x32 .f32) (main_arg10 : FVec F S64x32 .f32) (main_arg11 : FVec F S64x32 .f32) (main_arg12 : FVec F S64x32 .f32) (main_arg13 : FVec F S64x32 .f32) (main_arg14 : FVec F S64x32 .f32) (main_arg15 : FVec F S64x32 .f32) (main_arg16 : FVec F S64x32 .f32) (main_arg17 : FVec F S64x32 .f32) (main_arg18 : FVec F S64x32 .f32) : IVec S64x325x12x4 1 :=
  let main_v0 : FVec F S64x325x12x32 .f32 := (fun l r => Host.dotGeneral dot_S64x325x12x2_S2x32_S64x325x12x32_3_0_012_1_n_n none l r) main_arg0 main_arg6
  let main_v1 : FVec F S32x20 .f32 := (transpose S32x20 [1, 0] · transposes_S20x32_S32x20_1_0) main_arg5
  let main_v2 : FVec F S64x325x12x20 .f32 := (fun l r => Host.dotGeneral dot_S64x325x12x32_S32x20_S64x325x12x20_3_0_012_1_n_n none l r) main_v0 main_v1
  let main_v3 : FVec F S64x325x12x20 .f32 := Host.exp main_v2
  let main_v4 : FVec F S64x325x12x32 .f32 := (fun l r => Host.dotGeneral dot_S64x325x12x20_S20x32_S64x325x12x32_3_0_012_1_n_n none l r) main_v3 main_arg5
  let main_cst : FVec F S_ .f32 := constant S_ .f32 0xFF800000#32
  let main_v5 : FVec F S64x325x12 .f32 := (fun x v => Host.reduce FloatOps.maximumf x v reducesTo_S64x325x12x20_S64x325x12_d3 h_S_) main_v2 main_cst
  let main_cst_0 : FVec F S_ .f32 := constant S_ .f32 0xFF800000#32
  let main_v6 : FVec F S64x325x12 .f32 := broadcastInDim S64x325x12 ![] bcast_S_S64x325x12 main_cst_0
  let main_v7 : FVec F S64x325x12 .f32 := maximumf main_v6 main_v5
  let main_v8 : FVec F S64x325x12x1 .f32 := broadcastInDim S64x325x12x1 ![0, 1, 2] bcast_S64x325x12_S64x325x12x1_0_1_2 main_v7
  let main_v9 : FVec F S64x325x12x20 .f32 := broadcastInDim S64x325x12x20 ![0, 1, 2, 3] bcast_S64x325x12x1_S64x325x12x20_0_1_2_3 main_v8
  let main_v10 : FVec F S64x325x12x20 .f32 := subf main_v2 main_v9
  let main_v11 : FVec F S64x325x12x20 .f32 := Host.exp main_v10
  let main_cst_1 : FVec F S_ .f32 := constant S_ .f32 0x00000000#32
  let main_v12 : FVec F S64x325x12 .f32 := (fun x v => Host.reduceAdd x v reducesTo_S64x325x12x20_S64x325x12_d3 h_S_) main_v11 main_cst_1
  let main_v13 : FVec F S64x325x12x1 .f32 := broadcastInDim S64x325x12x1 ![0, 1, 2] bcast_S64x325x12_S64x325x12x1_0_1_2 main_v12
  let main_v14 : FVec F S64x325x12x20 .f32 := broadcastInDim S64x325x12x20 ![0, 1, 2, 3] bcast_S64x325x12x1_S64x325x12x20_0_1_2_3 main_v13
  let main_v15 : FVec F S64x325x12x20 .f32 := Host.divf main_v11 main_v14
  let main_v16 : FVec F S64x325x12x32 .f32 := (fun l r => Host.dotGeneral dot_S64x325x12x20_S20x32_S64x325x12x32_3_0_012_1_n_n none l r) main_v15 main_arg5
  let main_v17 : FVec F S64x325x12x32 .f32 := mulf main_v4 main_v4
  let main_cst_2 : FVec F S_ .f32 := constant S_ .f32 0x00000000#32
  let main_v18 : FVec F S64x325x12 .f32 := (fun x v => Host.reduceAdd x v reducesTo_S64x325x12x32_S64x325x12_d3 h_S_) main_v17 main_cst_2
  let main_cst_3 : FVec F S_ .f32 := constant S_ .f32 0x24E69595#32
  fn_part1 (F := F) main_arg1 main_arg2 main_arg3 main_arg4 main_arg7 main_arg8 main_arg9 main_arg10 main_arg11 main_arg12 main_arg13 main_arg14 main_arg15 main_arg16 main_arg17 main_arg18 main_v16 main_v18 main_cst_3
-- ==== Kernel.lean ====
abbrev S64x325x12x2 : Shape := ⟨4, ![64, 325, 12, 2]⟩
abbrev S64x325x12x64 : Shape := ⟨4, ![64, 325, 12, 64]⟩
abbrev S20x32 : Shape := ⟨2, ![20, 32]⟩
abbrev S2x32 : Shape := ⟨2, ![2, 32]⟩
abbrev S64x32 : Shape := ⟨2, ![64, 32]⟩
abbrev S_ : Shape := ⟨0, ![]⟩
abbrev S32x32 : Shape := ⟨2, ![32, 32]⟩
abbrev S32x4 : Shape := ⟨2, ![32, 4]⟩
abbrev S1 : Shape := ⟨1, ![1]⟩
abbrev S32 : Shape := ⟨1, ![32]⟩
abbrev S64x325x12x4 : Shape := ⟨4, ![64, 325, 12, 4]⟩
abbrev S1x65x12x2 : Shape := ⟨4, ![1, 65, 12, 2]⟩
abbrev S1x65x12x64 : Shape := ⟨4, ![1, 65, 12, 64]⟩
abbrev S1x65x12x4 : Shape := ⟨4, ![1, 65, 12, 4]⟩
abbrev S65x12x2 : Shape := ⟨3, ![65, 12, 2]⟩
abbrev S65x12x32 : Shape := ⟨3, ![65, 12, 32]⟩
abbrev S65x12x4 : Shape := ⟨3, ![65, 12, 4]⟩
abbrev S65x12x64 : Shape := ⟨3, ![65, 12, 64]⟩
abbrev S65x12x12 : Shape := ⟨3, ![65, 12, 12]⟩
abbrev S65x12 : Shape := ⟨2, ![65, 12]⟩
abbrev S65x12x1 : Shape := ⟨3, ![65, 12, 1]⟩

abbrev nBuf : Space → Nat
  | .hbm => 53
  | .vmem => 31
  | .smem => 0
  | _ => 0

abbrev bufTy : (tb : Table) → Fin (tcTables nBuf tb) → BufTy
  | .hbm, ⟨0, _⟩ => ⟨S64x325x12x2, .f32⟩
  | .hbm, ⟨1, _⟩ => ⟨S64x325x12x64, .f32⟩
  | .hbm, ⟨2, _⟩ => ⟨S64x325x12x64, .f32⟩
  | .hbm, ⟨3, _⟩ => ⟨S64x325x12x64, .f32⟩
  | .hbm, ⟨4, _⟩ => ⟨S64x325x12x64, .f32⟩
  | .hbm, ⟨5, _⟩ => ⟨S20x32, .f32⟩
  | .hbm, ⟨6, _⟩ => ⟨S2x32, .f32⟩
  | .hbm, ⟨7, _⟩ => ⟨S64x32, .f32⟩
  | .hbm, ⟨8, _⟩ => ⟨S64x32, .f32⟩
  | .hbm, ⟨9, _⟩ => ⟨S64x32, .f32⟩
  | .hbm, ⟨10, _⟩ => ⟨S64x32, .f32⟩
  | .hbm, ⟨11, _⟩ => ⟨S64x32, .f32⟩
  | .hbm, ⟨12, _⟩ => ⟨S64x32, .f32⟩
  | .hbm, ⟨13, _⟩ => ⟨S64x32, .f32⟩
  | .hbm, ⟨14, _⟩ => ⟨S64x32, .f32⟩
  | .hbm, ⟨15, _⟩ => ⟨S64x32, .f32⟩
  | .hbm, ⟨16, _⟩ => ⟨S64x32, .f32⟩
  | .hbm, ⟨17, _⟩ => ⟨S64x32, .f32⟩
  | .hbm, ⟨18, _⟩ => ⟨S64x32, .f32⟩
  | .hbm, ⟨19, _⟩ => ⟨S_, .i32⟩
  | .hbm, ⟨20, _⟩ => ⟨S_, .f32⟩
  | .hbm, ⟨21, _⟩ => ⟨S32x32, .f32⟩
  | .hbm, ⟨22, _⟩ => ⟨S_, .f32⟩
  | .hbm, ⟨23, _⟩ => ⟨S32x4, .f32⟩
  | .hbm, ⟨24, _⟩ => ⟨S_, .f32⟩
  | .hbm, ⟨25, _⟩ => ⟨S32x4, .f32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S32, .f32⟩
  | .hbm, ⟨30, _⟩ => ⟨S32x4, .f32⟩
  | .hbm, ⟨31, _⟩ => ⟨S_, .f32⟩
  | .hbm, ⟨32, _⟩ => ⟨S32x4, .f32⟩
  | .hbm, ⟨33, _⟩ => ⟨S_, .i32⟩
  | .hbm, ⟨34, _⟩ => ⟨S1, .i32⟩
  | .hbm, ⟨35, _⟩ => ⟨S_, .f32⟩
  | .hbm, ⟨36, _⟩ => ⟨S32, .f32⟩
  | .hbm, ⟨37, _⟩ => ⟨S32x4, .f32⟩
  | .hbm, ⟨38, _⟩ => ⟨S_, .f32⟩
  | .hbm, ⟨39, _⟩ => ⟨S32x4, .f32⟩
  | .hbm, ⟨40, _⟩ => ⟨S_, .i32⟩
  | .hbm, ⟨41, _⟩ => ⟨S1, .i32⟩
  | .hbm, ⟨42, _⟩ => ⟨S_, .f32⟩
  | .hbm, ⟨43, _⟩ => ⟨S32, .f32⟩
  | .hbm, ⟨44, _⟩ => ⟨S32x4, .f32⟩
  | .hbm, ⟨45, _⟩ => ⟨S_, .f32⟩
  | .hbm, ⟨46, _⟩ => ⟨S32x4, .f32⟩
  | .hbm, ⟨47, _⟩ => ⟨S_, .i32⟩
  | .hbm, ⟨48, _⟩ => ⟨S1, .i32⟩
  | .hbm, ⟨49, _⟩ => ⟨S_, .f32⟩
  | .hbm, ⟨50, _⟩ => ⟨S32, .f32⟩
  | .hbm, ⟨51, _⟩ => ⟨S32x4, .f32⟩
  | .hbm, ⟨52, _⟩ => ⟨S64x325x12x4, .f32⟩
  | .local _ .vmem, ⟨0, _⟩ => ⟨S1x65x12x2, .f32⟩
  | .local _ .vmem, ⟨1, _⟩ => ⟨S1x65x12x2, .f32⟩
  | .local _ .vmem, ⟨2, _⟩ => ⟨S1x65x12x64, .f32⟩
  | .local _ .vmem, ⟨3, _⟩ => ⟨S1x65x12x64, .f32⟩
  | .local _ .vmem, ⟨4, _⟩ => ⟨S1x65x12x64, .f32⟩
  | .local _ .vmem, ⟨5, _⟩ => ⟨S1x65x12x64, .f32⟩
  | .local _ .vmem, ⟨6, _⟩ => ⟨S1x65x12x64, .f32⟩
  | .local _ .vmem, ⟨7, _⟩ => ⟨S1x65x12x64, .f32⟩
  | .local _ .vmem, ⟨8, _⟩ => ⟨S1x65x12x64, .f32⟩
  | .local _ .vmem, ⟨9, _⟩ => ⟨S1x65x12x64, .f32⟩
  | .local _ .vmem, ⟨10, _⟩ => ⟨S32x32, .f32⟩
  | .local _ .vmem, ⟨11, _⟩ => ⟨S2x32, .f32⟩
  | .local _ .vmem, ⟨12, _⟩ => ⟨S64x32, .f32⟩
  | .local _ .vmem, ⟨13, _⟩ => ⟨S64x32, .f32⟩
  | .local _ .vmem, ⟨14, _⟩ => ⟨S64x32, .f32⟩
  | .local _ .vmem, ⟨15, _⟩ => ⟨S64x32, .f32⟩
  | .local _ .vmem, ⟨16, _⟩ => ⟨S64x32, .f32⟩
  | .local _ .vmem, ⟨17, _⟩ => ⟨S64x32, .f32⟩
  | .local _ .vmem, ⟨18, _⟩ => ⟨S64x32, .f32⟩
  | .local _ .vmem, ⟨19, _⟩ => ⟨S64x32, .f32⟩
  | .local _ .vmem, ⟨20, _⟩ => ⟨S64x32, .f32⟩
  | .local _ .vmem, ⟨21, _⟩ => ⟨S64x32, .f32⟩
  | .local _ .vmem, ⟨22, _⟩ => ⟨S64x32, .f32⟩
  | .local _ .vmem, ⟨23, _⟩ => ⟨S64x32, .f32⟩
  | .local _ .vmem, ⟨24, _⟩ => ⟨S32x4, .f32⟩
  | .local _ .vmem, ⟨25, _⟩ => ⟨S32x4, .f32⟩
  | .local _ .vmem, ⟨26, _⟩ => ⟨S32x4, .f32⟩
  | .local _ .vmem, ⟨27, _⟩ => ⟨S32x4, .f32⟩
  | .local _ .vmem, ⟨28, _⟩ => ⟨S32x4, .f32⟩
  | .local _ .vmem, ⟨29, _⟩ => ⟨S1x65x12x4, .f32⟩
  | .local _ .vmem, ⟨30, _⟩ => ⟨S1x65x12x4, .f32⟩
  | _, _ => ⟨S64x325x12x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_cst_3 : Ref sig .tc := ⟨.hbm, 31, rfl⟩
abbrev main_v6 : Ref sig .tc := ⟨.hbm, 32, rfl⟩
abbrev main_c_4 : Ref sig .tc := ⟨.hbm, 33, rfl⟩
abbrev main_v7 : Ref sig .tc := ⟨.hbm, 34, rfl⟩
abbrev main_cst_5 : Ref sig .tc := ⟨.hbm, 35, rfl⟩
abbrev main_v8 : Ref sig .tc := ⟨.hbm, 36, rfl⟩
abbrev main_v9 : Ref sig .tc := ⟨.hbm, 37, rfl⟩
abbrev main_cst_6 : Ref sig .tc := ⟨.hbm, 38, rfl⟩
abbrev main_v10 : Ref sig .tc := ⟨.hbm, 39, rfl⟩
abbrev main_c_7 : Ref sig .tc := ⟨.hbm, 40, rfl⟩
abbrev main_v11 : Ref sig .tc := ⟨.hbm, 41, rfl⟩
abbrev main_cst_8 : Ref sig .tc := ⟨.hbm, 42, rfl⟩
abbrev main_v12 : Ref sig .tc := ⟨.hbm, 43, rfl⟩
abbrev main_v13 : Ref sig .tc := ⟨.hbm, 44, rfl⟩
abbrev main_cst_9 : Ref sig .tc := ⟨.hbm, 45, rfl⟩
abbrev main_v14 : Ref sig .tc := ⟨.hbm, 46, rfl⟩
abbrev main_c_10 : Ref sig .tc := ⟨.hbm, 47, rfl⟩
abbrev main_v15 : Ref sig .tc := ⟨.hbm, 48, rfl⟩
abbrev main_cst_11 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg24_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem24_1 : DmaSem sig := 30

abbrev nD : Nat := 1
abbrev τ : Topo := Topo.v7x

variable {F : FTy → Type} [FloatOps F]

abbrev grid0 : Pipeline.Grid := ⟨2, ![64, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x65x12x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x12x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x65x12x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x65x12x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x65x12x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S64x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S32x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S32x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S32x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S32x4 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S32x4 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1x65x12x4 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== ReferenceIdeal.lean ====
abbrev S64x325x12x2 : Shape := ⟨4, ![64, 325, 12, 2]⟩
abbrev S64x325x12x64 : Shape := ⟨4, ![64, 325, 12, 64]⟩
abbrev S20x32 : Shape := ⟨2, ![20, 32]⟩
abbrev S2x32 : Shape := ⟨2, ![2, 32]⟩
abbrev S64x32 : Shape := ⟨2, ![64, 32]⟩
abbrev S64x325x12x32 : Shape := ⟨4, ![64, 325, 12, 32]⟩
abbrev S32x20 : Shape := ⟨2, ![32, 20]⟩
abbrev S64x325x12x20 : Shape := ⟨4, ![64, 325, 12, 20]⟩
abbrev S_ : Shape := ⟨0, ![]⟩
abbrev S64x325x12 : Shape := ⟨3, ![64, 325, 12]⟩
abbrev S64x325x12x1 : Shape := ⟨4, ![64, 325, 12, 1]⟩
abbrev S64x325x32x12 : Shape := ⟨4, ![64, 325, 32, 12]⟩
abbrev S64x325x12x12 : Shape := ⟨4, ![64, 325, 12, 12]⟩
abbrev S64x325x12x4 : Shape := ⟨4, ![64, 325, 12, 4]⟩

abbrev nBuf : Space → Nat
  | .hbm => 198
  | .vmem => 0
  | .smem => 0
  | _ => 0

abbrev hbmTy0_0 (i : Nat) : BufTy := match i % 128 with
  | 0 => ⟨S64x325x12x2, .f32⟩
  | 1 => ⟨S64x325x12x64, .f32⟩
  | 2 => ⟨S64x325x12x64, .f32⟩
  | 3 => ⟨S64x325x12x64, .f32⟩
  | 4 => ⟨S64x325x12x64, .f32⟩
  | 5 => ⟨S20x32, .f32⟩
  | 6 => ⟨S2x32, .f32⟩
  | 7 => ⟨S64x32, .f32⟩
  | 8 => ⟨S64x32, .f32⟩
  | 9 => ⟨S64x32, .f32⟩
  | 10 => ⟨S64x32, .f32⟩
  | 11 => ⟨S64x32, .f32⟩
  | 12 => ⟨S64x32, .f32⟩
  | 13 => ⟨S64x32, .f32⟩
  | 14 => ⟨S64x32, .f32⟩
  | 15 => ⟨S64x32, .f32⟩
  | 16 => ⟨S64x32, .f32⟩
  | 17 => ⟨S64x32, .f32⟩
  | 18 => ⟨S64x32, .f32⟩
  | 19 => ⟨S64x325x12x32, .f32⟩
  | 20 => ⟨S32x20, .f32⟩
  | 21 => ⟨S64x325x12x20, .f32⟩
  | 22 => ⟨S_, .f32⟩
  | 23 => ⟨S64x325x12, .f32⟩
  | 24 => ⟨S_, .f32⟩
  | 25 => ⟨S64x325x12, .f32⟩
  | 26 => ⟨S64x325x12, .f32⟩
  | 27 => ⟨S64x325x12x1, .f32⟩
  | 28 => ⟨S64x325x12x20, .f32⟩
  | 29 => ⟨S64x325x12x20, .f32⟩
  | 30 => ⟨S64x325x12x20, .f32⟩
  | 31 => ⟨S_, .f32⟩
  | 32 => ⟨S64x325x12, .f32⟩
  | 33 => ⟨S64x325x12x1, .f32⟩
  | 34 => ⟨S64x325x12x20, .f32⟩
  | 35 => ⟨S64x325x12x20, .f32⟩
  | 36 => ⟨S64x325x12x32, .f32⟩
  | 37 => ⟨S64x325x12x32, .f32⟩
  | 38 => ⟨S64x325x12x32, .f32⟩
  | 39 => ⟨S64x325x12x32, .f32⟩
  | 40 => ⟨S64x325x32x12, .f32⟩
  | 41 => ⟨S64x325x12x12, .f32⟩
  | 42 => ⟨S_, .f32⟩
  | 43 => ⟨S64x325x12, .f32⟩
  | 44 => ⟨S_, .f32⟩
  | 45 => ⟨S64x325x12, .f32⟩
  | 46 => ⟨S64x325x12, .f32⟩
  | 47 => ⟨S64x325x12x1, .f32⟩
  | 48 => ⟨S64x325x12x12, .f32⟩
  | 49 => ⟨S64x325x12x12, .f32⟩
  | 50 => ⟨S64x325x12x12, .f32⟩
  | 51 => ⟨S_, .f32⟩
  | 52 => ⟨S64x325x12, .f32⟩
  | 53 => ⟨S64x325x12x1, .f32⟩
  | 54 => ⟨S64x325x12x12, .f32⟩
  | 55 => ⟨S64x325x12x12, .f32⟩
  | 56 => ⟨S64x325x12x32, .f32⟩
  | 57 => ⟨S64x325x12x32, .f32⟩
  | 58 => ⟨S_, .f32⟩
  | 59 => ⟨S64x325x12, .f32⟩
  | 60 => ⟨S64x325x12, .f32⟩
  | 61 => ⟨S_, .f32⟩
  | 62 => ⟨S64x325x12, .f32⟩
  | 63 => ⟨S64x325x12, .f32⟩
  | 64 => ⟨S64x325x12x32, .f32⟩
  | 65 => ⟨S_, .f32⟩
  | 66 => ⟨S64x325x12, .f32⟩
  | 67 => ⟨S64x325x12, .f32⟩
  | 68 => ⟨S_, .f32⟩
  | 69 => ⟨S64x325x12, .f32⟩
  | 70 => ⟨S64x325x12, .f32⟩
  | 71 => ⟨S64x325x12x32, .f32⟩
  | 72 => ⟨S_, .f32⟩
  | 73 => ⟨S64x325x12, .f32⟩
  | 74 => ⟨S64x325x12, .f32⟩
  | 75 => ⟨S64x325x12, .f32⟩
  | 76 => ⟨S64x325x12x32, .f32⟩
  | 77 => ⟨S64x325x12x32, .f32⟩
  | 78 => ⟨S64x325x12x32, .f32⟩
  | 79 => ⟨S64x325x32x12, .f32⟩
  | 80 => ⟨S64x325x12x12, .f32⟩
  | 81 => ⟨S_, .f32⟩
  | 82 => ⟨S64x325x12, .f32⟩
  | 83 => ⟨S_, .f32⟩
  | 84 => ⟨S64x325x12, .f32⟩
  | 85 => ⟨S64x325x12, .f32⟩
  | 86 => ⟨S64x325x12x1, .f32⟩
  | 87 => ⟨S64x325x12x12, .f32⟩
  | 88 => ⟨S64x325x12x12, .f32⟩
  | 89 => ⟨S64x325x12x12, .f32⟩
  | 90 => ⟨S_, .f32⟩
  | 91 => ⟨S64x325x12, .f32⟩
  | 92 => ⟨S64x325x12x1, .f32⟩
  | 93 => ⟨S64x325x12x12, .f32⟩
  | 94 => ⟨S64x325x12x12, .f32⟩
  | 95 => ⟨S64x325x12x32, .f32⟩
  | 96 => ⟨S64x325x12x32, .f32⟩
  | 97 => ⟨S_, .f32⟩
  | 98 => ⟨S64x325x12, .f32⟩
  | 99 => ⟨S64x325x12, .f32⟩
  | 100 => ⟨S_, .f32⟩
  | 101 => ⟨S64x325x12, .f32⟩
  | 102 => ⟨S64x325x12, .f32⟩
  | 103 => ⟨S64x325x12x32, .f32⟩
  | 104 => ⟨S_, .f32⟩
  | 105 => ⟨S64x325x12, .f32⟩
  | 106 => ⟨S64x325x12, .f32⟩
  | 107 => ⟨S_, .f32⟩
  | 108 => ⟨S64x325x12, .f32⟩
  | 109 => ⟨S64x325x12, .f32⟩
  | 110 => ⟨S64x325x12x32, .f32⟩
  | 111 => ⟨S_, .f32⟩
  | 112 => ⟨S64x325x12, .f32⟩
  | 113 => ⟨S64x325x12, .f32⟩
  | 114 => ⟨S64x325x12, .f32⟩
  | 115 => ⟨S64x325x12x32, .f32⟩
  | 116 => ⟨S64x325x12x32, .f32⟩
  | 117 => ⟨S64x325x12x32, .f32⟩
  | 118 => ⟨S64x325x32x12, .f32⟩
  | 119 => ⟨S64x325x12x12, .f32⟩
  | 120 => ⟨S_, .f32⟩
  | 121 => ⟨S64x325x12, .f32⟩
  | 122 => ⟨S_, .f32⟩
  | 123 => ⟨S64x325x12, .f32⟩
  | 124 => ⟨S64x325x12, .f32⟩
  | 125 => ⟨S64x325x12x1, .f32⟩
  | 126 => ⟨S64x325x12x12, .f32⟩
  | 127 => ⟨S64x325x12x12, .f32⟩
  | _ => ⟨S64x325x12x2, .f32⟩

abbrev hbmTy0_1 (i : Nat) : BufTy := match i % 128 with
  | 0 => ⟨S64x325x12x12, .f32⟩
  | 1 => ⟨S_, .f32⟩
  | 2 => ⟨S64x325x12, .f32⟩
  | 3 => ⟨S64x325x12x1, .f32⟩
  | 4 => ⟨S64x325x12x12, .f32⟩
  | 5 => ⟨S64x325x12x12, .f32⟩
  | 6 => ⟨S64x325x12x32, .f32⟩
  | 7 => ⟨S64x325x12x32, .f32⟩
  | 8 => ⟨S_, .f32⟩
  | 9 => ⟨S64x325x12, .f32⟩
  | 10 => ⟨S64x325x12, .f32⟩
  | 11 => ⟨S_, .f32⟩
  | 12 => ⟨S64x325x12, .f32⟩
  | 13 => ⟨S64x325x12, .f32⟩
  | 14 => ⟨S64x325x12x32, .f32⟩
  | 15 => ⟨S_, .f32⟩
  | 16 => ⟨S64x325x12, .f32⟩
  | 17 => ⟨S64x325x12, .f32⟩
  | 18 => ⟨S_, .f32⟩
  | 19 => ⟨S64x325x12, .f32⟩
  | 20 => ⟨S64x325x12, .f32⟩
  | 21 => ⟨S64x325x12x32, .f32⟩
  | 22 => ⟨S_, .f32⟩
  | 23 => ⟨S64x325x12, .f32⟩
  | 24 => ⟨S64x325x12, .f32⟩
  | 25 => ⟨S64x325x12, .f32⟩
  | 26 => ⟨S64x325x12x32, .f32⟩
  | 27 => ⟨S64x325x12x32, .f32⟩
  | 28 => ⟨S64x325x12x32, .f32⟩
  | 29 => ⟨S64x325x32x12, .f32⟩
  | 30 => ⟨S64x325x12x12, .f32⟩
  | 31 => ⟨S_, .f32⟩
  | 32 => ⟨S64x325x12, .f32⟩
  | 33 => ⟨S_, .f32⟩
  | 34 => ⟨S64x325x12, .f32⟩
  | 35 => ⟨S64x325x12, .f32⟩
  | 36 => ⟨S64x325x12x1, .f32⟩
  | 37 => ⟨S64x325x12x12, .f32⟩
  | 38 => ⟨S64x325x12x12, .f32⟩
  | 39 => ⟨S64x325x12x12, .f32⟩
  | 40 => ⟨S_, .f32⟩
  | 41 => ⟨S64x325x12, .f32⟩
  | 42 => ⟨S64x325x12x1, .f32⟩
  | 43 => ⟨S64x325x12x12, .f32⟩
  | 44 => ⟨S64x325x12x12, .f32⟩
  | 45 => ⟨S64x325x12x32, .f32⟩
  | 46 => ⟨S64x325x12x32, .f32⟩
  | 47 => ⟨S_, .f32⟩
  | 48 => ⟨S64x325x12, .f32⟩
  | 49 => ⟨S64x325x12, .f32⟩
  | 50 => ⟨S_, .f32⟩
  | 51 => ⟨S64x325x12, .f32⟩
  | 52 => ⟨S64x325x12, .f32⟩
  | 53 => ⟨S64x325x12x32, .f32⟩
  | 54 => ⟨S_, .f32⟩
  | 55 => ⟨S64x325x12, .f32⟩
  | 56 => ⟨S64x325x12, .f32⟩
  | 57 => ⟨S_, .f32⟩
  | 58 => ⟨S64x325x12, .f32⟩
  | 59 => ⟨S64x325x12, .f32⟩
  | 60 => ⟨S64x325x12x32, .f32⟩
  | 61 => ⟨S_, .f32⟩
  | 62 => ⟨S64x325x12, .f32⟩
  | 63 => ⟨S64x325x12, .f32⟩
  | 64 => ⟨S64x325x12, .f32⟩
  | 65 => ⟨S64x325x12x1, .f32⟩
  | 66 => ⟨S64x325x12x1, .f32⟩
  | 67 => ⟨S64x325x12x1, .f32⟩
  | 68 => ⟨S64x325x12x1, .f32⟩
  | 69 => ⟨S64x325x12x4, .f32⟩
  | _ => ⟨S64x325x12x2, .f32⟩

abbrev hbmTy (i : Nat) : BufTy := match i / 128 with
  | 0 => hbmTy0_0 i
  | 1 => hbmTy0_1 i
  | _ => ⟨S64x325x12x2, .f32⟩

abbrev bufTy : (tb : Table) → Fin (tcTables nBuf tb) → BufTy
  | .hbm, ⟨i, _⟩ => hbmTy i
  | _, _ => ⟨S64x325x12x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_v59 : Ref sig .tc := ⟨.hbm, 99, rfl⟩
abbrev main_cst_11 : Ref sig .tc := ⟨.hbm, 100, rfl⟩
abbrev main_v60 : Ref sig .tc := ⟨.hbm, 101, rfl⟩
abbrev main_v61 : Ref sig .tc := ⟨.hbm, 102, rfl⟩
abbrev main_call3_v0 : Ref sig .tc := ⟨.hbm, 103, rfl⟩
abbrev main_call3_cst : Ref sig .tc := ⟨.hbm, 104, rfl⟩
abbrev main_call3_v1 : Ref sig .tc := ⟨.hbm, 105, rfl⟩
abbrev main_v62 : Ref sig .tc := ⟨.hbm, 106, rfl⟩
abbrev main_cst_12 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_13 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_14 : Ref sig .tc := ⟨.hbm, 120, rfl⟩
abbrev main_v74 : Ref sig .tc := ⟨.hbm, 121, rfl⟩
abbrev main_cst_15 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_16 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_call4_v0 : Ref sig .tc := ⟨.hbm, 135, rfl⟩
abbrev main_call4_cst : Ref sig .tc := ⟨.hbm, 136, rfl⟩
abbrev main_call4_v1 : Ref sig .tc := ⟨.hbm, 137, rfl⟩
abbrev main_v86 : Ref sig .tc := ⟨.hbm, 138, rfl⟩
abbrev main_cst_17 : Ref sig .tc := ⟨.hbm, 139, rfl⟩
abbrev main_v87 : Ref sig .tc := ⟨.hbm, 140, rfl⟩
abbrev main_v88 : Ref sig .tc := ⟨.hbm, 141, rfl⟩
abbrev main_call5_v0 : Ref sig .tc := ⟨.hbm, 142, rfl⟩
abbrev main_call5_cst : Ref sig .tc := ⟨.hbm, 143, rfl⟩
abbrev main_call5_v1 : Ref sig .tc := ⟨.hbm, 144, rfl⟩
abbrev main_v89 : Ref sig .tc := ⟨.hbm, 145, rfl⟩
abbrev main_cst_18 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_19 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_20 : Ref sig .tc := ⟨.hbm, 159, rfl⟩
abbrev main_v101 : Ref sig .tc := ⟨.hbm, 160, rfl⟩
abbrev main_cst_21 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_22 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_call6_v0 : Ref sig .tc := ⟨.hbm, 174, rfl⟩
abbrev main_call6_cst : Ref sig .tc := ⟨.hbm, 175, rfl⟩
abbrev main_call6_v1 : Ref sig .tc := ⟨.hbm, 176, rfl⟩
abbrev main_v113 : Ref sig .tc := ⟨.hbm, 177, rfl⟩
abbrev main_cst_23 : Ref sig .tc := ⟨.hbm, 178, rfl⟩
abbrev main_v114 : Ref sig .tc := ⟨.hbm, 179, rfl⟩
abbrev main_v115 : Ref sig .tc := ⟨.hbm, 180, rfl⟩
abbrev main_call7_v0 : Ref sig .tc := ⟨.hbm, 181, rfl⟩
abbrev main_call7_cst : Ref sig .tc := ⟨.hbm, 182, rfl⟩
abbrev main_call7_v1 : Ref sig .tc := ⟨.hbm, 183, rfl⟩
abbrev main_v116 : Ref sig .tc := ⟨.hbm, 184, rfl⟩
abbrev main_cst_24 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_25 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩

abbrev nD : Nat := 1
abbrev τ : Topo := Topo.v7x

variable {F : FTy → Type} [FloatOps F]
-- ==== Proof.Row.lean ====
/- One row of the score, as plain mathematics over the extended reals.

   A row of the result is made of a feature row (against 20 memory slots) and of twelve hidden rows (attending to one another).
   Both sides weigh rows of a table by exponentials and take a cosine. The kernel leaves the weights unnormalised; the reference
   divides them by their sum. This file says that the cosine is the same, wherever no guard against a zero norm acts, and it
   asks nothing else of the numbers: any of them may be infinite. -/
module

public import Idealize.ShloMosaic.Lib.ValueIdx
public import Idealize.ShloMosaic.Lib.IdealHost
public import Idealize.ShloMosaic.PureOps.Ideal.Laws

@[expose] public section

noncomputable section

namespace Cert.Row

open Idealize.ShloMosaic

/-! ## Sums of extended reals -/

/-- A positive real factor moves into a sum. -/
theorem mul_sum_of_pos {ι : Type} (s : Finset ι) (f : ι → EReal) {c : ℝ} (hc : 0 < c) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hc.le) (EReal.coe_ne_top c)]

/-- The sum of reals, read as an extended real, is the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of squares with one infinite square is infinite. -/
theorem sum_sq_eq_top {ι : Type} [Fintype ι] (f : ι → EReal) (k : ι) (hk : f k = ⊤ ∨ f k = ⊥) : ∑ i, f i * f i = ⊤ := by
  classical
  have hsq : f k * f k = ⊤ := by rcases hk with h | h <;> rw [h] <;> rfl
  have h0 : ∀ i, 0 ≤ f i * f i := fun i => by
    rcases le_total 0 (f i) with h | h
    · exact mul_nonneg h h
    · have := mul_nonneg (EReal.neg_nonneg.2 h) (EReal.neg_nonneg.2 h); rwa [neg_mul_neg] at this
  exact top_le_iff.1 (hsq ▸ Finset.single_le_sum (f := fun i => f i * f i) (fun i _ => h0 i) (Finset.mem_univ k))

/-- A sum whose terms are each zero or infinite is zero or infinite. -/
theorem sum_zero_or_inf {ι : Type} (s : Finset ι) (f : ι → EReal) (h : ∀ i, f i = 0 ∨ f i = ⊤ ∨ f i = ⊥) :
    ∑ i ∈ s, f i = 0 ∨ ∑ i ∈ s, f i = ⊤ ∨ ∑ i ∈ s, f i = ⊥ := by
  classical
  induction s using Finset.induction_on with
  | empty => left; simp
  | insert a s ha ih =>
    rw [Finset.sum_insert ha]
    rcases h a with h1 | h1 | h1 <;> rcases ih with h2 | h2 | h2 <;> rw [h1, h2] <;> simp

/-- A sum with an infinite term is infinite. -/
theorem sum_inf {ι : Type} [Fintype ι] (f : ι → EReal) (j : ι) (hj : f j = ⊤ ∨ f j = ⊥) : ∑ i, f i = ⊤ ∨ ∑ i, f i = ⊥ := by
  classical
  rw [← Finset.add_sum_erase _ _ (Finset.mem_univ j)]
  rcases hj with h | h
  · rw [h]
    induction (∑ i ∈ Finset.univ.erase j, f i) using EReal.rec <;> simp
  · rw [h]; right; simp

/-- The product of a number that is not zero with an infinite one is infinite. -/
theorem mul_inf {x y : EReal} (hx : x = ⊤ ∨ x = ⊥) (hy : y ≠ 0) : x * y = ⊤ ∨ x * y = ⊥ := by
  rcases lt_or_gt_of_ne hy with h | h <;> rcases hx with rfl | rfl
  · exact .inr (EReal.top_mul_of_neg h)
  · exact .inl (EReal.bot_mul_of_neg h)
  · exact .inl (EReal.top_mul_of_pos h)
  · exact .inr (EReal.bot_mul_of_pos h)

/-- An infinite number times anything is zero or infinite. -/
theorem mul_zero_or_inf {x y : EReal} (hx : x = ⊤ ∨ x = ⊥) : x * y = 0 ∨ x * y = ⊤ ∨ x * y = ⊥ := by
  by_cases hy : y = 0
  · left; rw [hy, mul_zero]
  · exact .inr (mul_inf hx hy)

/-! ## Energies and weights -/

/-- A row through a weight matrix. -/
def proj {c d : Nat} (x : Fin c → EReal) (w : Fin c → Fin d → EReal) (k : Fin d) : EReal := ∑ i, x i * w i k

/-- A query against the rows of a table. -/
def against {n d : Nat} (q : Fin d → EReal) (v : Fin n → Fin d → EReal) (j : Fin n) : EReal := ∑ k, q k * v j k

section weights
variable {n d : Nat}

/-- The greatest of a row of energies. -/
def peak (e : Fin n → EReal) : EReal := Finset.univ.fold max ⊥ e

/-- An energy's weight: the exponential of its distance below the greatest. -/
def weight (e : Fin n → EReal) (j : Fin n) : EReal := Ideal.exp (e j - peak e)

/-- The sum of the weights. -/
def total (e : Fin n → EReal) : EReal := ∑ j, weight e j

/-- Rows weighed by the exponentials of the energies as they stand. -/
def raw (e : Fin n → EReal) (v : Fin n → Fin d → EReal) (k : Fin d) : EReal := ∑ j, Ideal.exp (e j) * v j k

/-- Rows weighed by the weights, not normalised. -/
def unscaled (e : Fin n → EReal) (v : Fin n → Fin d → EReal) (k : Fin d) : EReal := ∑ j, weight e j * v j k

/-- Rows weighed by the normalised weights (the softmax's reading). -/
def soft (e : Fin n → EReal) (v : Fin n → Fin d → EReal) (k : Fin d) : EReal := ∑ j, Ideal.div (weight e j) (total e) * v j k

theorem peak_eq_sup (e : Fin n → EReal) : peak e = Finset.univ.sup e := rfl

theorem le_peak (e : Fin n → EReal) (j : Fin n) : e j ≤ peak e := by
  rw [peak_eq_sup]; exact Finset.le_sup (Finset.mem_univ j)

/-- The greatest energy is one of them. -/
theorem peak_mem (e : Fin n → EReal) (hn : 0 < n) : ∃ j, e j = peak e := by
  haveI : Nonempty (Fin n) := ⟨⟨0, hn⟩⟩
  obtain ⟨j, -, hj⟩ := Finset.exists_mem_eq_sup Finset.univ Finset.univ_nonempty e
  exact ⟨j, by rw [peak_eq_sup, hj]⟩

theorem exp_nonneg (x : EReal) : 0 ≤ Ideal.exp x := by
  induction x using EReal.rec with
  | bot => exact le_refl (0 : EReal)
  | top => exact le_top
  | coe r => show (0 : EReal) ≤ (Real.exp r : EReal); exact_mod_cast (Real.exp_pos r).le

/-- Over a finite greatest energy, the weights sum to a real not below one and an exponential is its weight times a positive real. -/
theorem weight_real (e : Fin n → EReal) (hn : 0 < n) {M : ℝ} (hM : peak e = (M : EReal)) :
    ∃ z : ℝ, 1 ≤ z ∧ total e = (z : EReal) ∧ ∀ j, Ideal.exp (e j) = ((Real.exp M : ℝ) : EReal) * weight e j := by
  have hw : ∀ j, ∃ r : ℝ, 0 ≤ r ∧ weight e j = (r : EReal) ∧ (e j = peak e → r = 1) ∧
      Ideal.exp (e j) = ((Real.exp M : ℝ) : EReal) * weight e j := fun j => by
    have hle := le_peak e j
    unfold weight
    rw [hM] at hle ⊢
    generalize e j = x at hle
    induction x using EReal.rec with
    | bot => exact ⟨0, le_rfl, rfl, fun h => absurd h (by simp), by show (0 : EReal) = _ * (0 : EReal); rw [mul_zero]⟩
    | top => exact absurd hle (by simp)
    | coe r =>
      have hs : ((r : EReal) - (M : EReal)) = ((r - M : ℝ) : EReal) := by push_cast; rfl
      rw [hs]
      refine ⟨Real.exp (r - M), (Real.exp_pos _).le, rfl, fun h => ?_, ?_⟩
      · have : r = M := by exact_mod_cast h
        rw [this, sub_self, Real.exp_zero]
      · show ((Real.exp r : ℝ) : EReal) = ((Real.exp M : ℝ) : EReal) * ((Real.exp (r - M) : ℝ) : EReal)
        rw [← EReal.coe_mul, ← Real.exp_add]; congr 2; ring
  choose r h0 h1 h2 h3 using hw
  obtain ⟨j0, hj0⟩ := peak_mem e hn
  refine ⟨∑ j, r j, ?_, ?_, h3⟩
  · refine le_trans (h2 j0 hj0).ge (Finset.single_le_sum (fun i _ => h0 i) (Finset.mem_univ j0))
  · unfold total; rw [Finset.sum_congr rfl fun j _ => h1 j, coe_sum]

/-- Over an infinite greatest energy every weight is zero. -/
theorem weight_inf (e : Fin n → EReal) (h : peak e = ⊤ ∨ peak e = ⊥) (j : Fin n) : weight e j = 0 := by
  have hle := le_peak e j
  unfold weight
  rcases h with h | h <;> rw [h] at hle ⊢
  · have : e j - ⊤ = ⊥ := by
      generalize e j = x
      induction x using EReal.rec <;> rfl
    rw [this]; rfl
  · rw [le_bot_iff.1 hle]; rfl

theorem div_pos_real (x : EReal) {z : ℝ} (hz : 0 < z) : Ideal.div x (z : EReal) = ((z⁻¹ : ℝ) : EReal) * x := by
  rw [Ideal.div_coe hz.ne', one_div, mul_comm]

/-- The weighted rows are the normalised ones times the sum of the weights. -/
theorem unscaled_eq (e : Fin n → EReal) (v : Fin n → Fin d → EReal) {z : ℝ} (hz : 0 < z) (ht : total e = (z : EReal)) (k : Fin d) :
    unscaled e v k = (z : EReal) * soft e v k := by
  unfold unscaled soft
  rw [← mul_sum_of_pos _ _ hz]
  refine Finset.sum_congr rfl fun j _ => ?_
  rw [ht, div_pos_real _ hz, mul_assoc, ← mul_assoc, ← EReal.coe_mul, mul_inv_cancel₀ hz.ne', EReal.coe_one, one_mul]

/-- Where every weight is zero, the normalised rows are sums of zeros and infinities. -/
theorem soft_inf (e : Fin n → EReal) (v : Fin n → Fin d → EReal) (h : ∀ j, weight e j = 0) (k : Fin d) :
    soft e v k = 0 ∨ soft e v k = ⊤ ∨ soft e v k = ⊥ := by
  unfold soft
  refine sum_zero_or_inf _ _ fun j => mul_zero_or_inf (.inr ?_)
  have ht : total e = 0 := by unfold total; exact Finset.sum_eq_zero fun j _ => h j
  rw [h, ht]; unfold Ideal.div; rw [if_pos rfl, if_neg (lt_irrefl _)]

/-- … so, not all zero, they have an infinite sum of squares. -/
theorem soft_sq_top (e : Fin n → EReal) (v : Fin n → Fin d → EReal) (h : ∀ j, weight e j = 0)
    (hpos : 0 < ∑ k, soft e v k * soft e v k) : ∑ k, soft e v k * soft e v k = ⊤ := by
  by_contra hne
  refine hpos.ne' (Finset.sum_eq_zero fun k _ => ?_)
  rcases soft_inf e v h k with hk | hk
  · rw [hk, mul_zero]
  · exact absurd (sum_sq_eq_top _ k hk) hne

/-- Rows weighed by bare exponentials: a positive real times the normalised ones, or both of infinite sum of squares. The
    energies are the table's rows against a query `q`, as the memory's are. -/
theorem raw_soft (q : Fin d → EReal) (v : Fin n → Fin d → EReal) (e : Fin n → EReal) (he : ∀ j, e j = against q v j)
    (hn : 0 < n) (h1 : 0 < ∑ k, raw e v k * raw e v k) (h2 : 0 < ∑ k, soft e v k * soft e v k) :
    (∃ c : ℝ, 0 < c ∧ ∀ k, raw e v k = (c : EReal) * soft e v k)
      ∨ (∑ k, raw e v k * raw e v k = ⊤ ∧ ∑ k, soft e v k * soft e v k = ⊤) := by
  have hcase : ∀ x, peak e = x → x = ⊥ ∨ (∃ M : ℝ, x = (M : EReal)) ∨ x = ⊤ := fun x _ => by
    induction x using EReal.rec <;> simp
  rcases hcase _ rfl with hp | ⟨M, hp⟩ | hp
  · exfalso
    refine h1.ne' (Finset.sum_eq_zero fun k _ => ?_)
    have : raw e v k = 0 := Finset.sum_eq_zero fun j _ => by
      have hle := le_peak e j
      rw [hp] at hle
      rw [le_bot_iff.1 hle]; exact zero_mul _
    rw [this, zero_mul]
  · left
    obtain ⟨z, hz1, ht, hx⟩ := weight_real e hn hp
    have hz := zero_lt_one.trans_le hz1
    refine ⟨Real.exp M * z, mul_pos (Real.exp_pos M) hz, fun k => ?_⟩
    rw [EReal.coe_mul, mul_assoc, ← unscaled_eq e v hz ht]
    unfold raw unscaled
    rw [← mul_sum_of_pos _ _ (Real.exp_pos M)]
    exact Finset.sum_congr rfl fun j _ => by rw [hx, mul_assoc]
  · right
    refine ⟨?_, soft_sq_top e v (weight_inf e (.inl hp)) h2⟩
    obtain ⟨j, hj⟩ := peak_mem e hn
    rw [hp] at hj
    obtain ⟨k, hk⟩ : ∃ k, v j k ≠ 0 := by
      by_contra hcon
      push Not at hcon
      have h0 : e j = 0 := by rw [he]; exact Finset.sum_eq_zero fun k _ => by rw [hcon k, mul_zero]
      rw [hj] at h0; exact absurd h0 (by simp)
    refine sum_sq_eq_top _ k (sum_inf _ j (mul_inf (.inl ?_) hk))
    rw [hj]; rfl

/-- Rows weighed by the weights: a real not below one times the normalised ones, or zero against an infinite sum of squares. -/
theorem unscaled_soft (v : Fin n → Fin d → EReal) (e : Fin n → EReal) (hn : 0 < n) (h2 : 0 < ∑ k, soft e v k * soft e v k) :
    (∃ c : ℝ, 1 ≤ c ∧ ∀ k, unscaled e v k = (c : EReal) * soft e v k)
      ∨ ((∀ k, unscaled e v k = 0) ∧ ∑ k, soft e v k * soft e v k = ⊤) := by
  by_cases hp : peak e = ⊤ ∨ peak e = ⊥
  · right
    exact ⟨fun k => Finset.sum_eq_zero fun j _ => by rw [weight_inf e hp, zero_mul], soft_sq_top e v (weight_inf e hp) h2⟩
  · left
    push Not at hp
    obtain ⟨z, hz, ht, -⟩ := weight_real e hn (EReal.coe_toReal hp.1 hp.2).symm
    exact ⟨z, hz, unscaled_eq e v (zero_lt_one.trans_le hz) ht⟩

end weights

/-! ## The two cosines -/

/-- The kernel's guard under the square root, and the reference's guard on the root. -/
def floor2 : EReal := Ideal.ofBits .f32 0x24E69595#32
def floor1 : EReal := Ideal.ofBits .f32 0x322BCC77#32

variable {d : Nat}

/-- The kernel's cosine: reciprocal roots of the guarded sums of squares. -/
def cosK (a b : Fin d → EReal) : EReal :=
  (∑ k, a k * b k) * Ideal.rsqrt (max (∑ k, a k * a k) floor2) * Ideal.rsqrt (max (∑ k, b k * b k) floor2)

/-- The reference's cosine: the quotient by the guarded norms. -/
def cosR (a b : Fin d → EReal) : EReal :=
  Ideal.div (∑ k, a k * b k) (max (Ideal.sqrt (∑ k, a k * a k)) floor1 * max (Ideal.sqrt (∑ k, b k * b k)) floor1)

theorem floor2_eq : floor2 = ((15111573 * 2 ^ (-77 : ℤ) : ℝ) : EReal) := by
  simp [floor2, Ideal.ofBits, Ideal.ieee]

theorem floor1_eq : floor1 = ((11258999 * 2 ^ (-50 : ℤ) : ℝ) : EReal) := by
  simp [floor1, Ideal.ofBits, Ideal.ieee]

/-- Both guards are positive reals, and the root's guard lies below the root of the square's. -/
theorem floors : ∃ f g : ℝ, floor2 = (f : EReal) ∧ floor1 = (g : EReal) ∧ 0 < f ∧ 0 < g ∧ g * g ≤ f :=
  ⟨_, _, floor2_eq, floor1_eq, by norm_num, by norm_num, by norm_num⟩

/-- A sum of squares at or above the guard: infinite, or the square of a positive real norm, the guards without effect. -/
theorem norm_cases {S : EReal} (h : floor2 ≤ S) :
    (S = ⊤ ∧ Ideal.rsqrt (max S floor2) = 0 ∧ max (Ideal.sqrt S) floor1 = ⊤)
      ∨ ∃ s : ℝ, 0 < s ∧ S = ((s * s : ℝ) : EReal) ∧ Ideal.rsqrt (max S floor2) = ((s⁻¹ : ℝ) : EReal)
        ∧ max (Ideal.sqrt S) floor1 = (s : EReal) := by
  obtain ⟨f, g, hf, hg, f0, g0, hfg⟩ := floors
  rw [max_eq_left h]
  rw [hf] at h
  induction S using EReal.rec with
  | bot => exact absurd h (by simp)
  | top => exact .inl ⟨rfl, rfl, max_eq_left le_top⟩
  | coe r =>
    right
    have hr : f ≤ r := by exact_mod_cast h
    have r0 : 0 < r := f0.trans_le hr
    refine ⟨Real.sqrt r, Real.sqrt_pos.2 r0, by rw [Real.mul_self_sqrt r0.le], ?_, ?_⟩
    · show (if r < 0 then ⊥ else if r = 0 then ⊤ else (((Real.sqrt r)⁻¹ : ℝ) : EReal)) = _
      rw [if_neg r0.not_gt, if_neg r0.ne']
    · have hs : Ideal.sqrt (r : EReal) = ((Real.sqrt r : ℝ) : EReal) := by
        show (if r < 0 then ⊥ else ((Real.sqrt r : ℝ) : EReal)) = _
        rw [if_neg r0.not_gt]
      rw [hs, hg, max_eq_left]
      have : g ≤ Real.sqrt r := Real.le_sqrt_of_sq_le (by rw [sq]; exact hfg.trans hr)
      exact_mod_cast this

theorem norm_pos {S : EReal} (h : floor2 ≤ S) : 0 < max (Ideal.sqrt S) floor1 := by
  rcases norm_cases h with ⟨-, -, h⟩ | ⟨s, s0, -, -, h⟩ <;> rw [h]
  · exact EReal.zero_lt_top
  · exact_mod_cast s0

theorem floor2_pos : 0 < floor2 := by
  obtain ⟨f, -, hf, -, f0, -, -⟩ := floors
  rw [hf]; exact_mod_cast f0

theorem div_top (x : EReal) : Ideal.div x ⊤ = 0 := by
  unfold Ideal.div; rw [if_neg (by simp), EReal.inv_top, mul_zero]

theorem cosK_left {a b : Fin d → EReal} (h : ∑ k, a k * a k = ⊤) : cosK a b = 0 := by
  unfold cosK; rw [h, max_eq_left le_top]
  show _ * (0 : EReal) * _ = 0
  rw [mul_zero, zero_mul]

theorem cosK_right {a b : Fin d → EReal} (h : ∑ k, b k * b k = ⊤) : cosK a b = 0 := by
  unfold cosK; rw [h, max_eq_left le_top]
  show _ * (0 : EReal) = 0
  rw [mul_zero]

theorem cosK_zero {a b : Fin d → EReal} (h : ∀ k, b k = 0) : cosK a b = 0 := by
  unfold cosK
  rw [Finset.sum_eq_zero (f := fun k => a k * b k) fun k _ => by rw [h, mul_zero], zero_mul, zero_mul]

theorem cosR_left {a b : Fin d → EReal} (h : ∑ k, a k * a k = ⊤) (hb : floor2 ≤ ∑ k, b k * b k) : cosR a b = 0 := by
  unfold cosR; rw [h]
  have : max (Ideal.sqrt ⊤) floor1 = ⊤ := max_eq_left le_top
  rw [this, EReal.top_mul_of_pos (norm_pos hb), div_top]

theorem cosR_right {a b : Fin d → EReal} (h : ∑ k, b k * b k = ⊤) (ha : floor2 ≤ ∑ k, a k * a k) : cosR a b = 0 := by
  unfold cosR; rw [h]
  have : max (Ideal.sqrt ⊤) floor1 = ⊤ := max_eq_left le_top
  rw [this, EReal.mul_top_of_pos (norm_pos ha), div_top]

/-- The sum of squares of a scaled row. -/
theorem sum_sq_scaled {a a' : Fin d → EReal} {c : ℝ} (hc : 0 < c) (h : ∀ k, a' k = (c : EReal) * a k) :
    ∑ k, a' k * a' k = ((c * c : ℝ) : EReal) * ∑ k, a k * a k := by
  rw [← mul_sum_of_pos _ _ (mul_pos hc hc)]
  exact Finset.sum_congr rfl fun k _ => by rw [h, EReal.coe_mul]; exact mul_mul_mul_comm _ _ _ _

/-- Scaling a row by a real not below one keeps its sum of squares above the guard. -/
theorem scaled_ge {a a' : Fin d → EReal} {c : ℝ} (hc : 1 ≤ c) (h : ∀ k, a' k = (c : EReal) * a k)
    (g : floor2 ≤ ∑ k, a k * a k) : floor2 ≤ ∑ k, a' k * a' k := by
  have c0 := zero_lt_one.trans_le hc
  rw [sum_sq_scaled c0 h]
  rcases norm_cases g with ⟨ht, -, -⟩ | ⟨s, s0, hs, -, -⟩
  · rw [ht, EReal.mul_top_of_pos (by exact_mod_cast mul_pos c0 c0)]; exact le_top
  · refine g.trans ?_
    rw [hs, ← EReal.coe_mul]
    exact EReal.coe_le_coe_iff.2 (le_mul_of_one_le_left (mul_pos s0 s0).le (one_le_mul_of_one_le_of_one_le hc hc))

/-- The two cosines agree on rows that differ by positive real factors, where no guard acts. -/
theorem cos_scaled {a a' b b' : Fin d → EReal} {c e : ℝ} (hc : 0 < c) (he : 0 < e) (ha : ∀ k, a' k = (c : EReal) * a k)
    (hb : ∀ k, b' k = (e : EReal) * b k) (ga : floor2 ≤ ∑ k, a k * a k) (ga' : floor2 ≤ ∑ k, a' k * a' k)
    (gb : floor2 ≤ ∑ k, b k * b k) (gb' : floor2 ≤ ∑ k, b' k * b' k) : cosK a' b' = cosR a b := by
  have sa := sum_sq_scaled hc ha
  have sb := sum_sq_scaled he hb
  rcases norm_cases ga with ⟨ta, -, -⟩ | ⟨s, s0, hs, -, ns⟩
  · rw [cosR_left ta gb, cosK_left]
    rw [sa, ta, EReal.mul_top_of_pos (by exact_mod_cast mul_pos hc hc)]
  rcases norm_cases gb with ⟨tb, -, -⟩ | ⟨t, t0, ht, -, nt⟩
  · rw [cosR_right tb ga, cosK_right]
    rw [sb, tb, EReal.mul_top_of_pos (by exact_mod_cast mul_pos he he)]
  have sq : ∀ {x y : ℝ}, 0 < x → 0 < y → x * x = y * y → x = y := fun hx hy h =>
    (mul_self_inj hx.le hy.le).1 h
  rw [hs, ← EReal.coe_mul] at sa
  rw [ht, ← EReal.coe_mul] at sb
  rcases norm_cases ga' with ⟨ta, -, -⟩ | ⟨s', s0', hs', rs, -⟩
  · rw [ta] at sa; exact absurd sa.symm (EReal.coe_ne_top _)
  rcases norm_cases gb' with ⟨tb, -, -⟩ | ⟨t', t0', ht', rt, -⟩
  · rw [tb] at sb; exact absurd sb.symm (EReal.coe_ne_top _)
  have es : s' = c * s := sq s0' (mul_pos hc s0) (by
    have h : s' * s' = c * c * (s * s) := by exact_mod_cast hs'.symm.trans sa
    rw [h]; ring)
  have et : t' = e * t := sq t0' (mul_pos he t0) (by
    have h : t' * t' = e * e * (t * t) := by exact_mod_cast ht'.symm.trans sb
    rw [h]; ring)
  have hdot : ∑ k, a' k * b' k = ((c * e : ℝ) : EReal) * ∑ k, a k * b k := by
    rw [← mul_sum_of_pos _ _ (mul_pos hc he)]
    exact Finset.sum_congr rfl fun k _ => by rw [ha, hb, EReal.coe_mul]; exact mul_mul_mul_comm _ _ _ _
  unfold cosK cosR
  rw [rs, rt, ns, nt, hdot, ← EReal.coe_mul, Ideal.div_coe (mul_pos s0 t0).ne', mul_comm (((c * e : ℝ) : EReal)), mul_assoc, mul_assoc,
    ← EReal.coe_mul, ← EReal.coe_mul, es, et]
  congr 2
  field_simp

/-- THE ROW'S THEOREM. The kernel's cosine of the bare exponential reading of the memory and the unnormalised attention is the
    reference's cosine of the two softmax readings, where no sum of squares lies below the guard. -/
theorem score_eq {n p : Nat} (q : Fin d → EReal) (v : Fin n → Fin d → EReal) (e : Fin n → EReal) (he : ∀ j, e j = against q v j)
    (hn : 0 < n) (u : Fin p → Fin d → EReal) (f : Fin p → EReal) (hp : 0 < p)
    (g1 : floor2 ≤ ∑ k, raw e v k * raw e v k) (g2 : floor2 ≤ ∑ k, soft e v k * soft e v k)
    (g3 : floor2 ≤ ∑ k, soft f u k * soft f u k) :
    cosK (raw e v) (unscaled f u) = cosR (soft e v) (soft f u) := by
  rcases raw_soft q v e he hn (floor2_pos.trans_le g1) (floor2_pos.trans_le g2) with ⟨c, hc, h⟩ | ⟨h, h'⟩
  · rcases unscaled_soft u f hp (floor2_pos.trans_le g3) with ⟨z, hz, hu⟩ | ⟨hu, hu'⟩
    · have z0 := zero_lt_one.trans_le hz
      exact cos_scaled hc z0 h hu g2 g1 g3 (scaled_ge hz hu g3)
    · rw [cosK_zero hu, cosR_right hu' g2]
  · rw [cosK_left h, cosR_left h' g3]

end Cert.Row

end
-- ==== Proof.Block.lean ====
/- The kernel's block operations read at an index. -/
module

public import proofs.«01_k».proof.Proof.Gen.KernelIdeal.Skeleton
public import proofs.«01_k».proof.Proof.Row
public import Idealize.ShloMosaic.Lib.ValueIdx
public import Idealize.ShloMosaic.Lib.Pipeline.Value

@[expose] public section

noncomputable section

namespace Cert.Block

open Idealize.ShloMosaic Idealize.ShloMosaic.ValueIdx Cert.KernelIdeal Cert.KernelIdeal.Gen Cert.Row

/-! ## The contractions -/

/-- A contraction over one axis into zero: the sum over the axis, the operands read where the dot reads them. -/
theorem mm_at {s t u : Shape} (D : DotDims s t u) (n : Nat) (hr : D.contr.rank = 1) (hs : D.contr.size ⟨0, by omega⟩ = n)
    (a : FVec Ideal s .f32) (b : FVec Ideal t .f32) (i : u.Idx) (L : Fin n → s.Idx) (R : Fin n → t.Idx)
    (hL : ∀ k, D.lhsIdx i ((contrEquiv1 D n hr hs).symm k) = L k) (hR : ∀ k, D.rhsIdx i ((contrEquiv1 D n hr hs).symm k) = R k) :
    matmul (F := Ideal) D none a b (constant u .f32 0x00000000#32) i = ∑ k, a (L k) * b (R k) := by
  simp only [matmul]
  rw [Ideal.matmul_constant_zero_apply, ← Equiv.sum_comp (contrEquiv1 D n hr hs).symm]
  exact Finset.sum_congr rfl fun k _ => by rw [hL k, hR k]

theorem mm_in (a : FVec Ideal S65x12x2 .f32) (b : FVec Ideal S2x32 .f32) (r : Fin 65) (t : Fin 12) (k : Fin 32) :
    matmul (F := Ideal) dot_S65x12x2_S2x32_S65x12x32_2_0_01_1_n_n none a b (constant S65x12x32 .f32 0x00000000#32) (ix3 r t k)
      = ∑ c : Fin 2, a (ix3 r t c) * b (ix2 c k) :=
  mm_at dot_S65x12x2_S2x32_S65x12x32_2_0_01_1_n_n 2 rfl rfl a b _ (fun c => ix3 r t c) (fun c => ix2 c k)
    (fun c => (eq_ix3 _).trans rfl) (fun c => (eq_ix2 _).trans rfl)

theorem mm_hid (a : FVec Ideal S65x12x64 .f32) (b : FVec Ideal S64x32 .f32) (r : Fin 65) (t : Fin 12) (k : Fin 32) :
    matmul (F := Ideal) dot_S65x12x64_S64x32_S65x12x32_2_0_01_1_n_n none a b (constant S65x12x32 .f32 0x00000000#32) (ix3 r t k)
      = ∑ c : Fin 64, a (ix3 r t c) * b (ix2 c k) :=
  mm_at dot_S65x12x64_S64x32_S65x12x32_2_0_01_1_n_n 64 rfl rfl a b _ (fun c => ix3 r t c) (fun c => ix2 c k)
    (fun c => (eq_ix3 _).trans rfl) (fun c => (eq_ix2 _).trans rfl)

theorem mm_energy (a : FVec Ideal S65x12x32 .f32) (b : FVec Ideal S32x32 .f32) (r : Fin 65) (t : Fin 12) (j : Fin 32) :
    matmul (F := Ideal) dot_S65x12x32_S32x32_S65x12x32_2_1_01_0_n_n none a b (constant S65x12x32 .f32 0x00000000#32) (ix3 r t j)
      = ∑ k : Fin 32, a (ix3 r t k) * b (ix2 j k) :=
  mm_at dot_S65x12x32_S32x32_S65x12x32_2_1_01_0_n_n 32 rfl rfl a b _ (fun k => ix3 r t k) (fun k => ix2 j k)
    (fun c => (eq_ix3 _).trans rfl) (fun c => (eq_ix2 _).trans rfl)

theorem mm_read (a : FVec Ideal S65x12x32 .f32) (b : FVec Ideal S32x32 .f32) (r : Fin 65) (t : Fin 12) (k : Fin 32) :
    matmul (F := Ideal) dot_S65x12x32_S32x32_S65x12x32_2_0_01_1_n_n none a b (constant S65x12x32 .f32 0x00000000#32) (ix3 r t k)
      = ∑ j : Fin 32, a (ix3 r t j) * b (ix2 j k) :=
  mm_at dot_S65x12x32_S32x32_S65x12x32_2_0_01_1_n_n 32 rfl rfl a b _ (fun j => ix3 r t j) (fun j => ix2 j k)
    (fun c => (eq_ix3 _).trans rfl) (fun c => (eq_ix2 _).trans rfl)

theorem mm_heads (a : FVec Ideal S65x12x32 .f32) (b : FVec Ideal S32x4 .f32) (r : Fin 65) (t : Fin 12) (h : Fin 4) :
    matmul (F := Ideal) dot_S65x12x32_S32x4_S65x12x4_2_0_01_1_n_n none a b (constant S65x12x4 .f32 0x00000000#32) (ix3 r t h)
      = ∑ k : Fin 32, a (ix3 r t k) * b (ix2 k h) :=
  mm_at dot_S65x12x32_S32x4_S65x12x4_2_0_01_1_n_n 32 rfl rfl a b _ (fun k => ix3 r t k) (fun k => ix2 k h)
    (fun c => (eq_ix3 _).trans rfl) (fun c => (eq_ix2 _).trans rfl)

theorem mm_scores (a b : FVec Ideal S65x12x32 .f32) (r : Fin 65) (t s : Fin 12) :
    matmul (F := Ideal) (φ₂ := .f32) dot_S65x12x32_S65x12x32_S65x12x12_2_2_1_1_0_0 none a b (constant S65x12x12 .f32 0x00000000#32) (ix3 r t s)
      = ∑ k : Fin 32, a (ix3 r t k) * b (ix3 r s k) :=
  mm_at dot_S65x12x32_S65x12x32_S65x12x12_2_2_1_1_0_0 32 rfl rfl a b _ (fun k => ix3 r t k) (fun k => ix3 r s k)
    (fun c => (eq_ix3 _).trans rfl) (fun c => (eq_ix3 _).trans rfl)

theorem mm_mix (a : FVec Ideal S65x12x12 .f32) (b : FVec Ideal S65x12x32 .f32) (r : Fin 65) (t : Fin 12) (k : Fin 32) :
    matmul (F := Ideal) dot_S65x12x12_S65x12x32_S65x12x32_2_1_1_2_0_0 none a b (constant S65x12x32 .f32 0x00000000#32) (ix3 r t k)
      = ∑ s : Fin 12, a (ix3 r t s) * b (ix3 r s k) :=
  mm_at dot_S65x12x12_S65x12x32_S65x12x32_2_1_1_2_0_0 12 rfl rfl a b _ (fun s => ix3 r t s) (fun s => ix3 r s k)
    (fun c => (eq_ix3 _).trans rfl) (fun c => (eq_ix3 _).trans rfl)

/-! ## The layouts -/

section layouts
variable {α : Type}

theorem drop2 (x : S1x65x12x2.Idx → α) (r : Fin 65) (t : Fin 12) (c : Fin 2) :
    shapeCast S65x12x2 x Facts₀.shapeCasts_S1x65x12x2_S65x12x2 (ix3 r t c) = x (ix4 0 r t c) :=
  (shapeCast_dropUnit_apply ![65, 12, 2] x _ _).trans (congrArg x (eq_ix4 _))

theorem drop64 (x : S1x65x12x64.Idx → α) (r : Fin 65) (t : Fin 12) (c : Fin 64) :
    shapeCast S65x12x64 x Facts₀.shapeCasts_S1x65x12x64_S65x12x64 (ix3 r t c) = x (ix4 0 r t c) :=
  (shapeCast_dropUnit_apply ![65, 12, 64] x _ _).trans (congrArg x (eq_ix4 _))

theorem add4 (x : S65x12x4.Idx → α) (u : Fin 1) (r : Fin 65) (t : Fin 12) (h : Fin 4) :
    shapeCast S1x65x12x4 x Facts₀.shapeCasts_S65x12x4_S1x65x12x4 (ix4 u r t h) = x (ix3 r t h) :=
  (shapeCast_addUnit_apply ![65, 12, 4] x _ _).trans (congrArg x (eq_ix3 _))

/-- A value a row, spread along the row's twelve entries. -/
theorem spread12 (x : S65x12.Idx → α) (r : Fin 65) (t s : Fin 12) :
    broadcastTo S65x12x12 (shapeCast S65x12x1 x Facts₀.shapeCasts_S65x12_S65x12x1) Facts₀.broadcasts_S65x12x1_S65x12x12 (ix3 r t s)
      = x (ix2 r t) := by
  rw [broadcastTo_apply _ _ _ (ix3 r t (0 : Fin 1)) (fun a => match a with | ⟨0, _⟩ => rfl | ⟨1, _⟩ => rfl | ⟨2, _⟩ => rfl)]
  refine shapeCast_apply _ _ _ (ix2 r t) ?_
  rw [Shape.rowMajor_val_two, Shape.rowMajor_val_three]
  show r.val * 12 + t.val = (r.val * 12 + t.val) * 1 + 0
  omega

end layouts

/-! ## The memory's reading -/

/-- The energies of a block's row against the padded memory. -/
def blockE (m : FVec Ideal S32x32 .f32) (x : FVec Ideal S1x65x12x2 .f32) (q : FVec Ideal S2x32 .f32) (r : Fin 65) (t : Fin 12) :
    Fin 32 → EReal :=
  against (proj (fun c : Fin 2 => x (ix4 0 r t c)) (fun c k => q (ix2 c k))) (fun j k => m (ix2 j k))

theorem memory_at (m : FVec Ideal S32x32 .f32) (x : FVec Ideal S1x65x12x2 .f32) (q : FVec Ideal S2x32 .f32)
    (r : Fin 65) (t : Fin 12) (k : Fin 32) :
    k0_pay2 (F := Ideal) m x q (ix3 r t k) = raw (blockE m x q r t) (fun j k => m (ix2 j k)) k := by
  unfold k0_pay2
  simp only [shapeCast_self]
  rw [mm_read]
  unfold raw blockE against proj
  refine Finset.sum_congr rfl fun j _ => congrArg₂ (· * ·) (congrArg Ideal.exp ?_) rfl
  rw [mm_energy]
  refine Finset.sum_congr rfl fun k _ => congrArg₂ (· * ·) ?_ rfl
  rw [mm_in]
  exact Finset.sum_congr rfl fun c _ => congrArg₂ (· * ·) (drop2 x r t c) rfl

/-! ## A head's attention -/

/-- A block's hidden row through a head's weights. -/
def blockRow (x : FVec Ideal S1x65x12x64 .f32) (w : FVec Ideal S64x32 .f32) (r : Fin 65) (t : Fin 12) : Fin 32 → EReal :=
  proj (fun c : Fin 64 => x (ix4 0 r t c)) (fun c k => w (ix2 c k))

theorem hidden_at (x : FVec Ideal S1x65x12x64 .f32) (w : FVec Ideal S64x32 .f32) (r : Fin 65) (t : Fin 12) (k : Fin 32) :
    matmul (F := Ideal) dot_S65x12x64_S64x32_S65x12x32_2_0_01_1_n_n none
        (shapeCast S65x12x64 x Facts₀.shapeCasts_S1x65x12x64_S65x12x64) w (constant S65x12x32 .f32 0x00000000#32) (ix3 r t k)
      = blockRow x w r t k := by
  rw [mm_hid]
  exact Finset.sum_congr rfl fun c _ => congrArg₂ (· * ·) (drop64 x r t c) rfl

theorem ofBits_neg_inf : Ideal.ofBits .f32 0xFF800000#32 = ⊥ := by simp [Ideal.ofBits, Ideal.ieee]

theorem lift12 (r : Fin 65) (t s : Fin 12) : Facts₀.reduces_S65x12x12_S65x12.lift (ix2 r t) s = ix3 r t s := by
  funext a
  match a with
  | ⟨0, _⟩ => rfl
  | ⟨1, _⟩ => rfl
  | ⟨2, _⟩ => rfl

theorem peak_at (e : FVec Ideal S65x12x12 .f32) (r : Fin 65) (t : Fin 12) :
    multiReduction (F := Ideal) .maximumf [2] S65x12 e 0xFF800000#32 Facts₀.reduces_S65x12x12_S65x12 (.inl rfl) rfl (ix2 r t)
      = peak fun s => e (ix3 r t s) := by
  refine (Ideal.multiReduction_maximumf_single e _ Facts₀.reduces_S65x12x12_S65x12 _ _ (ix2 r t)).trans ?_
  show Finset.fold max (Ideal.ofBits .f32 0xFF800000#32) _ _ = _
  rw [ofBits_neg_inf]
  unfold peak
  congr 1
  funext s
  exact congrArg e (lift12 r t s)

theorem attention_at (x : FVec Ideal S1x65x12x64 .f32) (wq wk wv : FVec Ideal S64x32 .f32) (r : Fin 65) (t : Fin 12) (k : Fin 32) :
    k0_pay4 (F := Ideal) x wq wk wv (ix3 r t k)
      = unscaled (against (blockRow x wq r t) (blockRow x wk r)) (blockRow x wv r) k := by
  have energy : ∀ s : Fin 12, matmul (F := Ideal) (φ₂ := .f32) dot_S65x12x32_S65x12x32_S65x12x12_2_2_1_1_0_0 none
      (matmul (F := Ideal) dot_S65x12x64_S64x32_S65x12x32_2_0_01_1_n_n none
        (shapeCast S65x12x64 x Facts₀.shapeCasts_S1x65x12x64_S65x12x64) wq (constant S65x12x32 .f32 0x00000000#32))
      (matmul (F := Ideal) dot_S65x12x64_S64x32_S65x12x32_2_0_01_1_n_n none
        (shapeCast S65x12x64 x Facts₀.shapeCasts_S1x65x12x64_S65x12x64) wk (constant S65x12x32 .f32 0x00000000#32))
      (constant S65x12x12 .f32 0x00000000#32) (ix3 r t s) = against (blockRow x wq r t) (blockRow x wk r) s := fun s => by
    rw [mm_scores]
    unfold against
    exact Finset.sum_congr rfl fun k _ => congrArg₂ (· * ·) (hidden_at ..) (hidden_at ..)
  unfold k0_pay4
  rw [mm_mix]
  unfold unscaled weight
  refine Finset.sum_congr rfl fun s _ => congrArg₂ (· * ·) (congrArg Ideal.exp (congrArg₂ (· - ·) (energy s) ?_)) (hidden_at ..)
  rw [spread12, peak_at]
  exact congrArg peak (funext energy)

/-! ## The heads' sums -/

/-- A product's sum over the feature axis, kept in one head's column by a one-hot matrix. -/
theorem column_at {g : Fin 4} {sel : FVec Ideal S32x4 .f32} (hsel : ∀ k h, sel (ix2 k h) = if h = g then 1 else 0)
    (a b : FVec Ideal S65x12x32 .f32) (r : Fin 65) (t : Fin 12) (h : Fin 4) :
    matmul (F := Ideal) dot_S65x12x32_S32x4_S65x12x4_2_0_01_1_n_n none (mulf a b) sel (constant S65x12x4 .f32 0x00000000#32) (ix3 r t h)
      = if h = g then ∑ k, a (ix3 r t k) * b (ix3 r t k) else 0 := by
  rw [mm_heads]
  by_cases hg : h = g
  · rw [if_pos hg]
    refine Finset.sum_congr rfl fun k _ => ?_
    rw [hsel, if_pos hg, mul_one]
    rfl
  · rw [if_neg hg]
    refine Finset.sum_eq_zero fun k _ => ?_
    rw [hsel, if_neg hg, mul_zero]

/-- The same by a matrix of ones: the sum in every column. -/
theorem all_at {sel : FVec Ideal S32x4 .f32} (hsel : ∀ k h, sel (ix2 k h) = 1)
    (a b : FVec Ideal S65x12x32 .f32) (r : Fin 65) (t : Fin 12) (h : Fin 4) :
    matmul (F := Ideal) dot_S65x12x32_S32x4_S65x12x4_2_0_01_1_n_n none (mulf a b) sel (constant S65x12x4 .f32 0x00000000#32) (ix3 r t h)
      = ∑ k, a (ix3 r t k) * b (ix3 r t k) := by
  rw [mm_heads]
  refine Finset.sum_congr rfl fun k _ => ?_
  rw [hsel, mul_one]
  rfl

/-- Four columns added: each head reads its own. -/
theorem pick (f : Fin 4 → EReal) (h : Fin 4) :
    (if h = 0 then f 0 else 0) + (if h = 1 then f 1 else 0) + (if h = 2 then f 2 else 0) + (if h = 3 then f 3 else 0) = f h := by
  fin_cases h <;> simp

/-- What one grid point stores, from its blocks. -/
def stored (x0 : FVec Ideal S1x65x12x2 .f32) (x1 x2 x3 x4 : FVec Ideal S1x65x12x64 .f32) (m : FVec Ideal S32x32 .f32) (q : FVec Ideal S2x32 .f32)
    (q0 q1 q2 q3 k0 k1 k2 k3 v0 v1 v2 v3 : FVec Ideal S64x32 .f32) (ones s0 s1 s2 s3 : FVec Ideal S32x4 .f32) : FVec Ideal S1x65x12x4 .f32 :=
  k0_pay1 (F := Ideal) (k0_pay2 m x0 q) (k0_pay3 m x0 q ones)
    (k0_pay13 (k0_pay2 m x0 q) (k0_pay8 (k0_pay2 m x0 q) (k0_pay4 x1 q0 k0 v0) s0 x2 q1 k1 v1 s1) (k0_pay10 x3) q2 k2 v2 s2)
    (k0_pay14 (k0_pay9 (k0_pay4 x1 q0 k0 v0) s0 x2 q1 k1 v1 s1) (k0_pay10 x3) q2 k2 v2 s2)
    (k0_pay16 x4 v3) (k0_pay17 x4 q3 k3) s3

/-- The same with the four heads' attentions written alike. -/
def joined (mem a0 a1 a2 a3 : FVec Ideal S65x12x32 .f32) (ones s0 s1 s2 s3 : FVec Ideal S32x4 .f32) : FVec Ideal S65x12x4 .f32 :=
  let col (a b : FVec Ideal S65x12x32 .f32) (s : FVec Ideal S32x4 .f32) : FVec Ideal S65x12x4 .f32 :=
    matmul (F := Ideal) dot_S65x12x32_S32x4_S65x12x4_2_0_01_1_n_n none (mulf a b) s (constant S65x12x4 .f32 0x00000000#32)
  mulf (mulf (addf (addf (addf (col mem a0 s0) (col mem a1 s1)) (col mem a2 s2)) (col mem a3 s3))
      (rsqrt (maximumf (col mem mem ones) (broadcast S65x12x4 (Scalar.ofBits (F := Ideal) .f32 0x24E69595#32)))))
    (rsqrt (maximumf (addf (addf (addf (col a0 a0 s0) (col a1 a1 s1)) (col a2 a2 s2)) (col a3 a3 s3))
      (broadcast S65x12x4 (Scalar.ofBits (F := Ideal) .f32 0x24E69595#32))))

theorem stored_eq (x0 : FVec Ideal S1x65x12x2 .f32) (x1 x2 x3 x4 : FVec Ideal S1x65x12x64 .f32) (m : FVec Ideal S32x32 .f32) (q : FVec Ideal S2x32 .f32)
    (q0 q1 q2 q3 k0 k1 k2 k3 v0 v1 v2 v3 : FVec Ideal S64x32 .f32) (ones s0 s1 s2 s3 : FVec Ideal S32x4 .f32) :
    stored x0 x1 x2 x3 x4 m q q0 q1 q2 q3 k0 k1 k2 k3 v0 v1 v2 v3 ones s0 s1 s2 s3
      = shapeCast S1x65x12x4 (joined (k0_pay2 m x0 q) (k0_pay4 x1 q0 k0 v0) (k0_pay4 x2 q1 k1 v1) (k0_pay4 x3 q2 k2 v2) (k0_pay4 x4 q3 k3 v3)
          ones s0 s1 s2 s3) Facts₀.shapeCasts_S65x12x4_S1x65x12x4 := by
  unfold stored k0_pay1 k0_pay3 k0_pay13 k0_pay14 k0_pay8 k0_pay9 k0_pay12 k0_pay7 k0_pay5
  simp only [shapeCast_self]
  rfl

theorem joined_at (mem : FVec Ideal S65x12x32 .f32) (a : Fin 4 → FVec Ideal S65x12x32 .f32) {ones s0 s1 s2 s3 : FVec Ideal S32x4 .f32}
    (ho : ∀ k h, ones (ix2 k h) = 1) (h0 : ∀ k h, s0 (ix2 k h) = if h = 0 then 1 else 0) (h1 : ∀ k h, s1 (ix2 k h) = if h = 1 then 1 else 0)
    (h2 : ∀ k h, s2 (ix2 k h) = if h = 2 then 1 else 0) (h3 : ∀ k h, s3 (ix2 k h) = if h = 3 then 1 else 0)
    (r : Fin 65) (t : Fin 12) (h : Fin 4) :
    joined mem (a 0) (a 1) (a 2) (a 3) ones s0 s1 s2 s3 (ix3 r t h)
      = cosK (fun k => mem (ix3 r t k)) (fun k => a h (ix3 r t k)) := by
  have dots := pick (fun g => ∑ k, mem (ix3 r t k) * a g (ix3 r t k)) h
  have norms := pick (fun g => ∑ k, a g (ix3 r t k) * a g (ix3 r t k)) h
  unfold cosK
  rw [← dots, ← norms, ← column_at h0, ← column_at h1, ← column_at h2, ← column_at h3, ← column_at h0, ← column_at h1, ← column_at h2,
    ← column_at h3, ← all_at ho (h := h)]
  rfl

end Cert.Block

end
-- ==== Proof.HostArrays.lean ====
/- The arrays the kernel's program makes before its grid runs: the padded memory, the ones, the one-hot columns. -/
module

public import proofs.«01_k».proof.Proof.Gen.KernelIdeal.Frame
public import Idealize.ShloMosaic.Lib.ValueIdx
public import Idealize.ShloMosaic.Lib.KernelVsHost
public import Idealize.ShloMosaic.Lib.IdealHost
public import Idealize.ShloMosaic.Lib.Routing.OpsSet

@[expose] public section

noncomputable section

namespace Cert.HostArrays

open Idealize.ShloMosaic Idealize.ShloMosaic.TcCoe Idealize.ShloMosaic.ValueIdx Cert.KernelIdeal Cert.KernelIdeal.Gen

/-! ## The one-hot columns -/

/-- A matrix of zeros with column `w` set to ones. -/
def column (w : BitVec 32) : FVec Ideal S32x4 .f32 :=
  Host.scatter scatter_S32x4_S1_S32_0_1_1_0 (fun _ b => b)
    (broadcastInDim S32x4 ![] bcast_S_S32x4 (constant (F := Ideal) S_ .f32 0x00000000#32))
    (broadcastInDim S1 ![] bcast_S_S1 (constantI S_ 32 w))
    (broadcastInDim S32 ![] bcast_S_S32 (constant (F := Ideal) S_ .f32 0x3F800000#32))

theorem lands (w : BitVec 32) (j k : Fin 32) (h : Fin 4) :
    scatter_S32x4_S1_S32_0_1_1_0.resultIdx? (ix1 j) (broadcastInDim S1 ![] bcast_S_S1 (constantI S_ 32 w)) = some (ix2 k h)
      ↔ j = k ∧ w.toInt = (h.val : Int) := by
  rw [Routing.resultIdx?_ix2]
  show (0 : Int) + ((j.val : Nat) : Int) = (k.val : Int) ∧ w.toInt + ((0 : Nat) : Int) = (h.val : Int) ↔ _
  rw [Fin.ext_iff]
  omega

theorem column_at {w : BitVec 32} {g : Fin 4} (hw : w.toInt = (g.val : Int)) (k : Fin 32) (h : Fin 4) :
    column w (ix2 k h) = if h = g then 1 else 0 := by
  unfold column
  by_cases hg : h = g
  · rw [if_pos hg]
    exact Routing.scatter_set_hit _ _ _ _ _ _ (fun _ _ => Ideal.ofBits_one_f32) (ix1 k) ((lands w k k h).2 ⟨rfl, hg ▸ hw⟩)
  · rw [if_neg hg, Routing.scatter_set_miss]
    · exact Ideal.ofBits_zero_f32
    · intro u hu
      rw [eq_ix1 u] at hu
      exact hg (Fin.ext (by have := ((lands w _ k h).1 hu).2; omega))

/-! ## The ones and the padded memory -/

/-- A matrix of ones. -/
def ones : FVec Ideal S32x4 .f32 := broadcastInDim S32x4 ![] bcast_S_S32x4 (constant (F := Ideal) S_ .f32 0x3F800000#32)

theorem ones_at (k : Fin 32) (h : Fin 4) : ones (ix2 k h) = 1 := Ideal.ofBits_one_f32

/-- The memory with twelve rows of zeros below its twenty. -/
def padded (x5 : FVec Ideal S20x32 .f32) : FVec Ideal S32x32 .f32 :=
  pad S32x32 ![0, 0] ![12, 0] ![0, 0] x5 (sitofp (F := Ideal) .f32 (constantI S_ 32 0#32)) pads_S20x32_S32x32_0120_000 h_S_

theorem padded_row (x5 : FVec Ideal S20x32 .f32) (j : Fin 20) (k : Fin 32) :
    padded x5 (ix2 (Fin.castAdd 12 j) k) = x5 (ix2 j k) :=
  pad_apply_of_inside _ _ _ _ _ _ _ _ (ix2 j k) fun a => match a with
    | ⟨0, _⟩ => by show j.val = 0 + j.val * (0 + 1); omega
    | ⟨1, _⟩ => by show k.val = 0 + k.val * (0 + 1); omega

theorem padded_below (x5 : FVec Ideal S20x32 .f32) (j : Fin 12) (k : Fin 32) : padded x5 (ix2 (Fin.natAdd 20 j) k) = 0 := by
  refine (pad_apply_of_not_inside _ _ _ _ _ _ _ _ (0 : Fin 2) ?_).trans ?_
  · show ¬(0 ≤ 20 + j.val ∧ (20 + j.val - 0) % (0 + 1) = 0 ∧ (20 + j.val - 0) / (0 + 1) < 20)
    omega
  · show (((0#32 : BitVec 32).toInt : ℝ) : EReal) = 0
    norm_num

/-! ## What the grid's windows find -/

variable (m : (ℓ : Loc nD τ sig) → Buf (Elt Ideal) ℓ) (c : Dev nD)

theorem V_v0 : V m c main_v0 = padded (m ((c : Thread nD τ).loc main_arg5)) := rfl
theorem V_v1 : V m c main_v1 = ones := rfl
theorem V_v5 : V m c main_v5 = column 0#32 := rfl
theorem V_v9 : V m c main_v9 = column 1#32 := rfl
theorem V_v13 : V m c main_v13 = column 2#32 := rfl
theorem V_v17 : V m c main_v17 = column 3#32 := rfl

end Cert.HostArrays

end
-- ==== Proof.Terms.lean ====
/- The arguments by name, and the rows and energies both sides make of them. -/
module

public import proofs.«01_k».proof.Proof.Row

@[expose] public section

noncomputable section

namespace Cert.Terms

open Idealize.ShloMosaic Idealize.ShloMosaic.ValueIdx Cert.Row

/-- The feature rows. -/
abbrev Feat := FVec Ideal ⟨4, ![64, 325, 12, 2]⟩ .f32
/-- A head's hidden rows. -/
abbrev Hid := FVec Ideal ⟨4, ![64, 325, 12, 64]⟩ .f32
/-- The memory. -/
abbrev Mem := FVec Ideal ⟨2, ![20, 32]⟩ .f32
/-- The memory query's weights. -/
abbrev WQ := FVec Ideal ⟨2, ![2, 32]⟩ .f32
/-- A head's query, key or value weights. -/
abbrev WH := FVec Ideal ⟨2, ![64, 32]⟩ .f32

/-- The memory's rows. -/
def slots (x5 : Mem) (j : Fin 20) (k : Fin 32) : EReal := x5 (ix2 j k)

/-- The query of a feature row. -/
def query (x0 : Feat) (x6 : WQ) (b : Fin 64) (n : Fin 325) (t : Fin 12) : Fin 32 → EReal :=
  proj (fun c : Fin 2 => x0 (ix4 b n t c)) (fun c k => x6 (ix2 c k))

/-- The energies of a feature row against the memory. -/
def memE (x0 : Feat) (x5 : Mem) (x6 : WQ) (b : Fin 64) (n : Fin 325) (t : Fin 12) : Fin 20 → EReal :=
  against (query x0 x6 b n t) (slots x5)

/-- A hidden row through a head's weights. -/
def hrow (h : Hid) (w : WH) (b : Fin 64) (n : Fin 325) (t : Fin 12) : Fin 32 → EReal :=
  proj (fun c : Fin 64 => h (ix4 b n t c)) (fun c k => w (ix2 c k))

/-- The energies of hidden row `t` against the twelve. -/
def attE (h : Hid) (wq wk : WH) (b : Fin 64) (n : Fin 325) (t : Fin 12) : Fin 12 → EReal :=
  against (hrow h wq b n t) (hrow h wk b n)

end Cert.Terms

end
-- ==== Proof.KernelValue.lean ====
/- The kernel's array at an index: the cosine of the bare memory reading and the bare attention of the index's head. -/
module

public import proofs.«01_k».proof.Proof.Gen.KernelIdeal.Value
public import proofs.«01_k».proof.Proof.Block
public import proofs.«01_k».proof.Proof.HostArrays
public import proofs.«01_k».proof.Proof.Terms
public import Idealize.ShloMosaic.Lib.Pipeline.Covers

@[expose] public section

noncomputable section

namespace Cert.KernelValue

open Idealize.ShloMosaic Idealize.ShloMosaic.TcCoe Idealize.ShloMosaic.ValueIdx Cert.KernelIdeal Cert.KernelIdeal.Gen Cert.Row Cert.Terms

variable (m : (ℓ : Loc nD τ sig) → Buf (Elt Ideal) ℓ) (c : Dev nD)

/-! ## The blocks -/

/-- The batch a grid point works on. -/
def batch (t : Fin cfg0.N) : Fin 64 := grid0.coords t 0

/-- The node a row of a grid point's block holds. -/
def node (t : Fin cfg0.N) (r : Fin 65) : Fin 325 :=
  ⟨(grid0.coords t 1).val * 65 + r.val, by have h : (grid0.coords t 1).val < 5 := (grid0.coords t 1).isLt; omega⟩

theorem map0 (i : grid0.Coords) : cc0_transform_0 i = ![(i 0).val, (i 1).val, 0, 0] := by
  have h0 : (i 0).val < 64 := (i 0).isLt
  have h1 : (i 1).val < 5 := (i 1).isLt
  unfold cc0_transform_0
  funext a
  match a with
  | ⟨0, _⟩ => show (BitVec.ofNat 32 (i 0).val).toNat = (i 0).val; rw [BitVec.toNat_ofNat]; omega
  | ⟨1, _⟩ => show (BitVec.ofNat 32 (i 1).val).toNat = (i 1).val; rw [BitVec.toNat_ofNat]; omega
  | ⟨2, _⟩ => rfl
  | ⟨3, _⟩ => rfl

theorem blk0 (t : Fin cfg0.N) (r : Fin 65) (s : Fin 12) (k : Fin 2) :
    iblk m c 0 t (ix4 0 r s k) = m ((c : Thread nD τ).loc main_arg0) (ix4 (batch t) (node t r) s k) := by
  rw [← V_main_arg0 m c]
  show V m c main_arg0 ((win0_0.rect t).emb (ix4 0 r s k)) = _
  refine congrArg _ (funext fun a => Fin.ext ?_)
  rw [Pipeline.Window.rect_emb_val win0_0 t _ a]
  show cc0_transform_0 (grid0.coords t) a * _ + _ = _
  rw [map0]
  match a with
  | ⟨0, _⟩ => show (grid0.coords t 0).val * 1 + 0 = (grid0.coords t 0).val; omega
  | ⟨1, _⟩ => rfl
  | ⟨2, _⟩ => show 0 * 12 + s.val = s.val; omega
  | ⟨3, _⟩ => show 0 * 2 + k.val = k.val; omega

/-- Where an entry of a hidden block lies in its array; the four heads' windows move alike. -/
theorem emb1 (t : Fin cfg0.N) (r : Fin 65) (s : Fin 12) (k : Fin 64) :
    (win0_1.rect t).emb (ix4 0 r s k) = ix4 (batch t) (node t r) s k := by
  refine funext fun a => Fin.ext ?_
  rw [Pipeline.Window.rect_emb_val win0_1 t _ a]
  show cc0_transform_0 (grid0.coords t) a * _ + _ = _
  rw [map0]
  match a with
  | ⟨0, _⟩ => show (grid0.coords t 0).val * 1 + 0 = (grid0.coords t 0).val; omega
  | ⟨1, _⟩ => rfl
  | ⟨2, _⟩ => show 0 * 12 + s.val = s.val; omega
  | ⟨3, _⟩ => show 0 * 64 + k.val = k.val; omega

/-- The same of an output block. -/
theorem emb24 (t : Fin cfg0.N) (u : Fin 1) (r : Fin 65) (s : Fin 12) (h : Fin 4) :
    (win0_24.rect t).emb (ix4 u r s h) = ix4 (batch t) (node t r) s h := by
  refine funext fun a => Fin.ext ?_
  rw [Pipeline.Window.rect_emb_val win0_24 t _ a]
  show cc0_transform_0 (grid0.coords t) a * _ + _ = _
  rw [map0]
  match a with
  | ⟨0, _⟩ => show (grid0.coords t 0).val * 1 + u.val = (grid0.coords t 0).val; omega
  | ⟨1, _⟩ => rfl
  | ⟨2, _⟩ => show 0 * 12 + s.val = s.val; omega
  | ⟨3, _⟩ => show 0 * 4 + h.val = h.val; omega

theorem blk1 (t : Fin cfg0.N) (r : Fin 65) (s : Fin 12) (k : Fin 64) :
    iblk m c 1 t (ix4 0 r s k) = m ((c : Thread nD τ).loc main_arg1) (ix4 (batch t) (node t r) s k) := by
  rw [← V_main_arg1 m c]
  show V m c main_arg1 ((win0_1.rect t).emb (ix4 0 r s k)) = _
  exact congrArg (V m c main_arg1) (emb1 t r s k)
theorem blk2 (t : Fin cfg0.N) (r : Fin 65) (s : Fin 12) (k : Fin 64) :
    iblk m c 2 t (ix4 0 r s k) = m ((c : Thread nD τ).loc main_arg2) (ix4 (batch t) (node t r) s k) := by
  rw [← V_main_arg2 m c]
  show V m c main_arg2 ((win0_2.rect t).emb (ix4 0 r s k)) = _
  exact congrArg (V m c main_arg2) (emb1 t r s k)
theorem blk3 (t : Fin cfg0.N) (r : Fin 65) (s : Fin 12) (k : Fin 64) :
    iblk m c 3 t (ix4 0 r s k) = m ((c : Thread nD τ).loc main_arg3) (ix4 (batch t) (node t r) s k) := by
  rw [← V_main_arg3 m c]
  show V m c main_arg3 ((win0_3.rect t).emb (ix4 0 r s k)) = _
  exact congrArg (V m c main_arg3) (emb1 t r s k)
theorem blk4 (t : Fin cfg0.N) (r : Fin 65) (s : Fin 12) (k : Fin 64) :
    iblk m c 4 t (ix4 0 r s k) = m ((c : Thread nD τ).loc main_arg4) (ix4 (batch t) (node t r) s k) := by
  rw [← V_main_arg4 m c]
  show V m c main_arg4 ((win0_4.rect t).emb (ix4 0 r s k)) = _
  exact congrArg (V m c main_arg4) (emb1 t r s k)

/-! The remaining windows hold their arrays whole. -/

theorem whole5 (t : Fin cfg0.N) (y : S32x32.Idx) : (win0_5.rect t).emb y = y :=
  funext fun a => Fin.ext (Pipeline.Window.rect_emb_val_of_index_zero win0_5 t a (match a with | ⟨0, _⟩ => rfl | ⟨1, _⟩ => rfl) y)
theorem whole6 (t : Fin cfg0.N) (y : S2x32.Idx) : (win0_6.rect t).emb y = y :=
  funext fun a => Fin.ext (Pipeline.Window.rect_emb_val_of_index_zero win0_6 t a (match a with | ⟨0, _⟩ => rfl | ⟨1, _⟩ => rfl) y)
theorem whole7 (t : Fin cfg0.N) (y : S64x32.Idx) : (win0_7.rect t).emb y = y :=
  funext fun a => Fin.ext (Pipeline.Window.rect_emb_val_of_index_zero win0_7 t a (match a with | ⟨0, _⟩ => rfl | ⟨1, _⟩ => rfl) y)
theorem whole19 (t : Fin cfg0.N) (y : S32x4.Idx) : (win0_19.rect t).emb y = y :=
  funext fun a => Fin.ext (Pipeline.Window.rect_emb_val_of_index_zero win0_19 t a (match a with | ⟨0, _⟩ => rfl | ⟨1, _⟩ => rfl) y)

theorem blk5 (t : Fin cfg0.N) : iblk m c 5 t = HostArrays.padded (m ((c : Thread nD τ).loc main_arg5)) :=
  (funext fun y => congrArg (V m c main_v0) (whole5 t y)).trans (HostArrays.V_v0 m c)
theorem blk6 (t : Fin cfg0.N) : iblk m c 6 t = m ((c : Thread nD τ).loc main_arg6) :=
  (funext fun y => congrArg (V m c main_arg6) (whole6 t y)).trans (V_main_arg6 m c)
theorem blk7 (t : Fin cfg0.N) : iblk m c 7 t = m ((c : Thread nD τ).loc main_arg7) :=
  (funext fun y => congrArg (V m c main_arg7) (whole7 t y)).trans (V_main_arg7 m c)
theorem blk8 (t : Fin cfg0.N) : iblk m c 8 t = m ((c : Thread nD τ).loc main_arg8) :=
  (funext fun y => congrArg (V m c main_arg8) (whole7 t y)).trans (V_main_arg8 m c)
theorem blk9 (t : Fin cfg0.N) : iblk m c 9 t = m ((c : Thread nD τ).loc main_arg9) :=
  (funext fun y => congrArg (V m c main_arg9) (whole7 t y)).trans (V_main_arg9 m c)
theorem blk10 (t : Fin cfg0.N) : iblk m c 10 t = m ((c : Thread nD τ).loc main_arg10) :=
  (funext fun y => congrArg (V m c main_arg10) (whole7 t y)).trans (V_main_arg10 m c)
theorem blk11 (t : Fin cfg0.N) : iblk m c 11 t = m ((c : Thread nD τ).loc main_arg11) :=
  (funext fun y => congrArg (V m c main_arg11) (whole7 t y)).trans (V_main_arg11 m c)
theorem blk12 (t : Fin cfg0.N) : iblk m c 12 t = m ((c : Thread nD τ).loc main_arg12) :=
  (funext fun y => congrArg (V m c main_arg12) (whole7 t y)).trans (V_main_arg12 m c)
theorem blk13 (t : Fin cfg0.N) : iblk m c 13 t = m ((c : Thread nD τ).loc main_arg13) :=
  (funext fun y => congrArg (V m c main_arg13) (whole7 t y)).trans (V_main_arg13 m c)
theorem blk14 (t : Fin cfg0.N) : iblk m c 14 t = m ((c : Thread nD τ).loc main_arg14) :=
  (funext fun y => congrArg (V m c main_arg14) (whole7 t y)).trans (V_main_arg14 m c)
theorem blk15 (t : Fin cfg0.N) : iblk m c 15 t = m ((c : Thread nD τ).loc main_arg15) :=
  (funext fun y => congrArg (V m c main_arg15) (whole7 t y)).trans (V_main_arg15 m c)
theorem blk16 (t : Fin cfg0.N) : iblk m c 16 t = m ((c : Thread nD τ).loc main_arg16) :=
  (funext fun y => congrArg (V m c main_arg16) (whole7 t y)).trans (V_main_arg16 m c)
theorem blk17 (t : Fin cfg0.N) : iblk m c 17 t = m ((c : Thread nD τ).loc main_arg17) :=
  (funext fun y => congrArg (V m c main_arg17) (whole7 t y)).trans (V_main_arg17 m c)
theorem blk18 (t : Fin cfg0.N) : iblk m c 18 t = m ((c : Thread nD τ).loc main_arg18) :=
  (funext fun y => congrArg (V m c main_arg18) (whole7 t y)).trans (V_main_arg18 m c)
theorem blk19 (t : Fin cfg0.N) : iblk m c 19 t = HostArrays.ones :=
  (funext fun y => congrArg (V m c main_v1) (whole19 t y)).trans (HostArrays.V_v1 m c)
theorem blk20 (t : Fin cfg0.N) : iblk m c 20 t = HostArrays.column 0#32 :=
  (funext fun y => congrArg (V m c main_v5) (whole19 t y)).trans (HostArrays.V_v5 m c)
theorem blk21 (t : Fin cfg0.N) : iblk m c 21 t = HostArrays.column 1#32 :=
  (funext fun y => congrArg (V m c main_v9) (whole19 t y)).trans (HostArrays.V_v9 m c)
theorem blk22 (t : Fin cfg0.N) : iblk m c 22 t = HostArrays.column 2#32 :=
  (funext fun y => congrArg (V m c main_v13) (whole19 t y)).trans (HostArrays.V_v13 m c)
theorem blk23 (t : Fin cfg0.N) : iblk m c 23 t = HostArrays.column 3#32 :=
  (funext fun y => congrArg (V m c main_v17) (whole19 t y)).trans (HostArrays.V_v17 m c)

/-! ## The padding -/

/-- The padded memory's reading is the memory's: a row of zeros contributes nothing. -/
theorem raw_padded (x5 : Mem) (q : Fin 32 → EReal) (k : Fin 32) :
    raw (against q fun j k => HostArrays.padded x5 (ix2 j k)) (fun j k => HostArrays.padded x5 (ix2 j k)) k
      = raw (against q (slots x5)) (slots x5) k := by
  unfold raw
  rw [show (∑ j : Fin 32, Ideal.exp (against q (fun j k => HostArrays.padded x5 (ix2 j k)) j) * HostArrays.padded x5 (ix2 j k))
      = _ from Fin.sum_univ_add (a := 20) (b := 12) _]
  rw [Finset.sum_eq_zero (s := (Finset.univ : Finset (Fin 12))) fun j _ => by rw [HostArrays.padded_below, mul_zero], add_zero]
  refine Finset.sum_congr rfl fun j _ => congrArg₂ (· * ·) (congrArg Ideal.exp ?_) (HostArrays.padded_row x5 j k)
  unfold against
  exact Finset.sum_congr rfl fun k _ => congrArg _ (HostArrays.padded_row x5 j k)

/-! ## The array -/

/-- The score of a row in a head, as the kernel computes it. -/
def score (x0 : Feat) (x1 x2 x3 x4 : Hid) (x5 : Mem) (x6 : WQ) (x7 x8 x9 x10 x11 x12 x13 x14 x15 x16 x17 x18 : WH)
    (b : Fin 64) (n : Fin 325) (t : Fin 12) (h : Fin 4) : EReal :=
  cosK (raw (memE x0 x5 x6 b n t) (slots x5))
    (unscaled (attE (![x1, x2, x3, x4] h) (![x7, x8, x9, x10] h) (![x11, x12, x13, x14] h) b n t)
      (hrow (![x1, x2, x3, x4] h) (![x15, x16, x17, x18] h) b n))

/-- The array of scores of device `c`'s arguments. -/
def scores : FVec Ideal S64x325x12x4 .f32 := fun i =>
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (i 0) (i 1) (i 2) (i 3)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What a grid point leaves in its staging buffer, the loads and the store through whole buffers read away. -/
theorem out_eq (x0 : FVec Ideal S1x65x12x2 .f32) (x1 x2 x3 x4 : FVec Ideal S1x65x12x64 .f32) (x5 : FVec Ideal S32x32 .f32) (x6 : FVec Ideal S2x32 .f32)
    (x7 x8 x9 x10 x11 x12 x13 x14 x15 x16 x17 x18 : FVec Ideal S64x32 .f32) (x19 x20 x21 x22 x23 : FVec Ideal S32x4 .f32) :
    out0_24 (F := Ideal) x0 x1 x2 x3 x4 x5 x6 x7 x8 x9 x10 x11 x12 x13 x14 x15 x16 x17 x18 x19 x20 x21 x22 x23
      = Block.stored x0 x1 x2 x3 x4 x5 x6 x7 x8 x9 x10 x11 x12 x13 x14 x15 x16 x17 x18 x19 x20 x21 x22 x23 := by
  unfold_out out0_24
  simp only [View.canon_unit_zero (S := S1x65x12x4) hz4, View.ld_unit_zero (S := S1x65x12x2) hz4, View.ld_unit_zero (S := S1x65x12x64) hz4,
    View.ld_unit_zero (S := S32x32) hz2, View.ld_unit_zero (S := S2x32) hz2, View.ld_unit_zero (S := S64x32) hz2, View.ld_unit_zero (S := S32x4) hz2]
  rfl

/-- A point's blocks being rows of the arrays, what it stores are the rows' scores. -/
theorem stored_at (x0 : Feat) (x : Fin 4 → Hid) (x5 : Mem) (x6 : WQ) (wq wk wv : Fin 4 → WH)
    (y0 : FVec Ideal S1x65x12x2 .f32) (y : Fin 4 → FVec Ideal S1x65x12x64 .f32) (b : Fin 64) (n : Fin 65 → Fin 325)
    (e0 : ∀ r s k, y0 (ix4 0 r s k) = x0 (ix4 b (n r) s k)) (e : ∀ g r s k, y g (ix4 0 r s k) = x g (ix4 b (n r) s k))
    (u : Fin 1) (r : Fin 65) (s : Fin 12) (h : Fin 4) :
    Block.stored y0 (y 0) (y 1) (y 2) (y 3) (HostArrays.padded x5) x6 (wq 0) (wq 1) (wq 2) (wq 3) (wk 0) (wk 1) (wk 2) (wk 3)
        (wv 0) (wv 1) (wv 2) (wv 3) HostArrays.ones (HostArrays.column 0#32) (HostArrays.column 1#32) (HostArrays.column 2#32)
        (HostArrays.column 3#32) (ix4 u r s h)
      = cosK (raw (memE x0 x5 x6 b (n r) s) (slots x5))
          (unscaled (attE (x h) (wq h) (wk h) b (n r) s) (hrow (x h) (wv h) b (n r))) := by
  have row (g : Fin 4) (w : WH) : Block.blockRow (y g) w r = hrow (x g) w b (n r) := by
    funext s
    unfold Block.blockRow hrow
    exact congrArg (fun x => proj x _) (funext fun k => e g r s k)
  rw [Block.stored_eq, Block.add4]
  refine (Block.joined_at (k0_pay2 (HostArrays.padded x5) y0 x6) (fun g => k0_pay4 (y g) (wq g) (wk g) (wv g)) HostArrays.ones_at
    (HostArrays.column_at rfl) (HostArrays.column_at rfl) (HostArrays.column_at rfl) (HostArrays.column_at rfl) r s h).trans ?_
  refine congrArg₂ cosK (funext fun k => ?_) (funext fun k => ?_)
  · rw [Block.memory_at]
    unfold Block.blockE
    rw [raw_padded]
    unfold memE query
    rw [show (fun k => y0 (ix4 0 r s k)) = _ from funext fun k => e0 r s k]
  · rw [Block.attention_at, row, row, row]
    rfl

/-- What a point stores, its blocks read: the scores of its rows. -/
theorem pay_of (x0 : Feat) (x1 x2 x3 x4 : Hid) (x5 : Mem) (x6 : WQ) (x7 x8 x9 x10 x11 x12 x13 x14 x15 x16 x17 x18 : WH)
    (y0 : FVec Ideal S1x65x12x2 .f32) (y1 y2 y3 y4 : FVec Ideal S1x65x12x64 .f32) (y5 : FVec Ideal S32x32 .f32) (y6 : FVec Ideal S2x32 .f32)
    (y7 y8 y9 y10 y11 y12 y13 y14 y15 y16 y17 y18 : FVec Ideal S64x32 .f32) (y19 y20 y21 y22 y23 : FVec Ideal S32x4 .f32)
    (b : Fin 64) (n : Fin 65 → Fin 325)
    (e0 : ∀ r s k, y0 (ix4 0 r s k) = x0 (ix4 b (n r) s k)) (e1 : ∀ r s k, y1 (ix4 0 r s k) = x1 (ix4 b (n r) s k)) (e2 : ∀ r s k, y2 (ix4 0 r s k) = x2 (ix4 b (n r) s k)) (e3 : ∀ r s k, y3 (ix4 0 r s k) = x3 (ix4 b (n r) s k)) (e4 : ∀ r s k, y4 (ix4 0 r s k) = x4 (ix4 b (n r) s k))
    (e5 : y5 = HostArrays.padded x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18)
    (e19 : y19 = HostArrays.ones) (e20 : y20 = HostArrays.column 0#32) (e21 : y21 = HostArrays.column 1#32) (e22 : y22 = HostArrays.column 2#32) (e23 : y23 = HostArrays.column 3#32)
    (u : Fin 1) (r : Fin 65) (s : Fin 12) (h : Fin 4) :
    out0_24 (F := Ideal) y0 y1 y2 y3 y4 y5 y6 y7 y8 y9 y10 y11 y12 y13 y14 y15 y16 y17 y18 y19 y20 y21 y22 y23 (ix4 u r s h)
      = score x0 x1 x2 x3 x4 x5 x6 x7 x8 x9 x10 x11 x12 x13 x14 x15 x16 x17 x18 b (n r) s h := by
  subst e5 e6 e7 e8 e9 e10 e11 e12 e13 e14 e15 e16 e17 e18 e19 e20 e21 e22 e23
  rw [out_eq]
  exact stored_at x0 ![x1, x2, x3, x4] x5 _ ![_, _, _, _] ![_, _, _, _] ![_, _, _, _] y0 ![y1, y2, y3, y4] b n e0
    (fun g => match g with
      | ⟨0, _⟩ => e1
      | ⟨1, _⟩ => e2
      | ⟨2, _⟩ => e3
      | ⟨3, _⟩ => e4) u r s h

theorem pay_at (t : Fin cfg0.N) (u : Fin 1) (r : Fin 65) (s : Fin 12) (h : Fin 4) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix4 u r s h)
      = scores m c (ix4 (batch t) (node t r) s h) :=
  pay_of (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    _ _ _ _ _ _ _ _ _ _ _ _ _ _ _ _ _ _ _ _ _ _ _ _ (batch t) (node t)
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) u r s h

theorem flushed_eq (t : Fin cfg0.N) :
    (dats m 0 c).flushed 24 t = ((cfg0.win 24).blk t).view.read (Elt Ideal) (scores m c) := by
  rw [Value.flushed24]
  funext y
  obtain ⟨u, r, s, h, rfl⟩ : ∃ u r s h, y = ix4 u r s h := ⟨_, _, _, _, eq_ix4 (n0 := 1) (n1 := 65) (n2 := 12) (n3 := 4) y⟩
  exact (pay_at m c t u r s h).trans (congrArg (scores m c) (emb24 t u r s h)).symm

theorem cover (i : S64x325x12x4.Idx) : ∃ t : Fin cfg0.N, (cfg0.win 24).flush t = true ∧ i ∈ ((cfg0.win 24).blk t).view.set := by
  have h1 : (i 1).val < 325 := (i 1).isLt
  obtain ⟨t, ht⟩ := Pipeline.Grid.coords_surjective grid0 (fun a => match a with
    | ⟨0, _⟩ => (i 0 : Fin 64)
    | ⟨1, _⟩ => (⟨(i 1).val / 65, by omega⟩ : Fin 5))
  refine ⟨t, flush0_24 t, ?_⟩
  have e : (win0_24.rect t).emb (ix4 0 ⟨(i 1).val % 65, by omega⟩ (i 2) (i 3)) = i := by
    refine (emb24 t 0 ⟨(i 1).val % 65, by omega⟩ (i 2) (i 3)).trans (funext fun a => ?_)
    have h0 : batch t = i 0 := congrFun ht 0
    have h2 : (grid0.coords t 1).val = (i 1).val / 65 := congrArg Fin.val (congrFun ht 1)
    match a with
    | ⟨0, _⟩ => exact h0
    | ⟨1, _⟩ => exact Fin.ext (by show (grid0.coords t 1).val * 65 + (i 1).val % 65 = (i 1).val; omega)
    | ⟨2, _⟩ => rfl
    | ⟨3, _⟩ => rfl
  exact Finset.mem_map.2 ⟨_, Finset.mem_univ _, e⟩

/-- The kernel's array after its run. -/
theorem final : (dats m 0 c).arrAt 24 cfg0.N = scores m c :=
  (dats m 0 c).arrAt_eq_of_cover 24 (scores m c) (fun t _ => flushed_eq m c t) cover

end Cert.KernelValue

end
-- ==== Proof.RefValue.lean ====
/- The reference's result read at an index: the cosine of the two softmax readings (`Row.cosR`), head by head. -/
module

public import proofs.«01_k».proof.Proof.Terms
public import proofs.«01_k».proof.Proof.Gen.ReferenceIdeal.Read

@[expose] public section

noncomputable section

namespace Cert.RefValue

open Idealize.ShloMosaic Idealize.ShloMosaic.ValueIdx Cert.ReferenceIdeal Cert.ReferenceIdeal.Read Cert.Row Cert.Terms

/-! ## The memory's reading -/

theorem v0_at (x0 : Feat) (x6 : WQ) (b : Fin 64) (n : Fin 325) (t : Fin 12) (k : Fin 32) :
    val_main_v0 (F := Ideal) x0 x6 (ix4 b n t k) = query x0 x6 b n t k := by
  rw [val_main_v0_apply]
  unfold query proj
  refine Finset.sum_congr rfl fun c _ => ?_
  rw [eq_ix4 (lidx_main_v0 _ c), eq_ix2 (ridx_main_v0 _ c)]
  rfl

theorem v2_at (x0 : Feat) (x5 : Mem) (x6 : WQ) (b : Fin 64) (n : Fin 325) (t : Fin 12) (j : Fin 20) :
    val_main_v2 (F := Ideal) x0 x5 x6 (ix4 b n t j) = memE x0 x5 x6 b n t j := by
  rw [val_main_v2_apply]
  unfold memE against
  refine Finset.sum_congr rfl fun k _ => ?_
  rw [val_main_v1_apply, eq_ix4 (lidx_main_v2 _ k), eq_ix2 (idx_main_v1 _)]
  exact congrArg₂ (· * ·) (v0_at ..) rfl

/-- The pattern both sides start a maximum from is the least extended real. -/
theorem ofBits_neg_inf : Ideal.ofBits .f32 0xFF800000#32 = ⊥ := by simp [Ideal.ofBits, Ideal.ieee]

theorem reduces20 : S64x325x12x20.Reduces [3] S64x325x12 := by decide
theorem reduces12 : S64x325x12x12.Reduces [3] S64x325x12 := by decide

theorem lift20 (b : Fin 64) (n : Fin 325) (t : Fin 12) (j : Fin 20) : reduces20.lift (ix3 b n t) j = ix4 b n t j := by
  funext a; match a with | ⟨0, _⟩ => rfl | ⟨1, _⟩ => rfl | ⟨2, _⟩ => rfl | ⟨3, _⟩ => rfl
theorem lift12 (b : Fin 64) (n : Fin 325) (t s : Fin 12) : reduces12.lift (ix3 b n t) s = ix4 b n t s := by
  funext a; match a with | ⟨0, _⟩ => rfl | ⟨1, _⟩ => rfl | ⟨2, _⟩ => rfl | ⟨3, _⟩ => rfl

theorem v5_at (x0 : Feat) (x5 : Mem) (x6 : WQ) (b : Fin 64) (n : Fin 325) (t : Fin 12) :
    val_main_v5 (F := Ideal) x0 x5 x6 (ix3 b n t) = peak (memE x0 x5 x6 b n t) := by
  rw [val_main_v5_apply, val_main_v4_apply]
  show max (Ideal.ofBits .f32 0xFF800000#32) _ = _
  rw [ofBits_neg_inf, max_eq_right bot_le]
  unfold val_main_v3
  rw [Host.reduce_eq_fold_single (FloatOps.maximumf (F := Ideal) (φ := .f32)) _ _ _ (h := reduces20)]
  show Finset.fold max (Ideal.ofBits .f32 0xFF800000#32) _ _ = _
  rw [ofBits_neg_inf]
  unfold peak
  congr 1
  funext j
  exact (congrArg _ (lift20 b n t j)).trans (v2_at x0 x5 x6 b n t j)

theorem v9_at (x0 : Feat) (x5 : Mem) (x6 : WQ) (b : Fin 64) (n : Fin 325) (t : Fin 12) (j : Fin 20) :
    val_main_v9 (F := Ideal) x0 x5 x6 (ix4 b n t j) = weight (memE x0 x5 x6 b n t) j := by
  rw [val_main_v9_apply, val_main_v8_apply, val_main_v7_apply, val_main_v6_apply, v2_at,
    show idx_main_v6 (idx_main_v7 (ix4 b n t j)) = ix3 b n t from eq_ix3 _, v5_at]
  rfl

theorem v10_at (x0 : Feat) (x5 : Mem) (x6 : WQ) (b : Fin 64) (n : Fin 325) (t : Fin 12) :
    val_main_v10 (F := Ideal) x0 x5 x6 (ix3 b n t) = total (memE x0 x5 x6 b n t) := by
  rw [val_main_v10_apply]
  show Ideal.ofBits .f32 0x00000000#32 + _ = _
  rw [Ideal.ofBits_zero_f32, zero_add]
  unfold total
  refine Finset.sum_congr rfl fun i _ => ?_
  rw [eq_ix4 (idx_main_v10 _ i)]
  exact v9_at x0 x5 x6 b n t i

theorem v13_at (x0 : Feat) (x5 : Mem) (x6 : WQ) (b : Fin 64) (n : Fin 325) (t : Fin 12) (j : Fin 20) :
    val_main_v13 (F := Ideal) x0 x5 x6 (ix4 b n t j) = Ideal.div (weight (memE x0 x5 x6 b n t) j) (total (memE x0 x5 x6 b n t)) := by
  rw [val_main_v13_apply, val_main_v12_apply, val_main_v11_apply, v9_at,
    show idx_main_v11 (idx_main_v12 (ix4 b n t j)) = ix3 b n t from eq_ix3 _, v10_at]
  rfl

theorem v14_at (x0 : Feat) (x5 : Mem) (x6 : WQ) (b : Fin 64) (n : Fin 325) (t : Fin 12) (k : Fin 32) :
    val_main_v14 (F := Ideal) x0 x5 x6 (ix4 b n t k) = soft (memE x0 x5 x6 b n t) (slots x5) k := by
  rw [val_main_v14_apply]
  refine Finset.sum_congr rfl fun j _ => ?_
  rw [eq_ix4 (lidx_main_v14 _ j), eq_ix2 (ridx_main_v14 _ j)]
  exact congrArg₂ (· * ·) (v13_at ..) rfl

/-! ## The attention's reading -/

theorem v15_at (h : Hid) (w : WH) (b : Fin 64) (n : Fin 325) (t : Fin 12) (k : Fin 32) :
    val_main_v15 (F := Ideal) h w (ix4 b n t k) = hrow h w b n t k := by
  rw [val_main_v15_apply]
  unfold hrow proj
  refine Finset.sum_congr rfl fun c _ => ?_
  rw [eq_ix4 (lidx_main_v15 _ c), eq_ix2 (ridx_main_v15 _ c)]
  rfl

theorem v19_at (h : Hid) (wq wk : WH) (b : Fin 64) (n : Fin 325) (t s : Fin 12) :
    val_main_v19 (F := Ideal) h wq wk (ix4 b n t s) = attE h wq wk b n t s := by
  rw [val_main_v19_apply]
  unfold attE against
  refine Finset.sum_congr rfl fun k _ => ?_
  rw [val_main_v18_apply, eq_ix4 (lidx_main_v19 _ k), eq_ix4 (idx_main_v18 _)]
  exact congrArg₂ (· * ·) (v15_at ..) (v15_at ..)

theorem v22_at (h : Hid) (wq wk : WH) (b : Fin 64) (n : Fin 325) (t : Fin 12) :
    val_main_v22 (F := Ideal) h wq wk (ix3 b n t) = peak (attE h wq wk b n t) := by
  rw [val_main_v22_apply, val_main_v21_apply]
  show max (Ideal.ofBits .f32 0xFF800000#32) _ = _
  rw [ofBits_neg_inf, max_eq_right bot_le]
  unfold val_main_v20
  rw [Host.reduce_eq_fold_single (FloatOps.maximumf (F := Ideal) (φ := .f32)) _ _ _ (h := reduces12)]
  show Finset.fold max (Ideal.ofBits .f32 0xFF800000#32) _ _ = _
  rw [ofBits_neg_inf]
  unfold peak
  congr 1
  funext j
  exact (congrArg _ (lift12 b n t j)).trans (v19_at h wq wk b n t j)

theorem v26_at (h : Hid) (wq wk : WH) (b : Fin 64) (n : Fin 325) (t s : Fin 12) :
    val_main_v26 (F := Ideal) h wq wk (ix4 b n t s) = weight (attE h wq wk b n t) s := by
  rw [val_main_v26_apply, val_main_v25_apply, val_main_v24_apply, val_main_v23_apply, v19_at,
    show idx_main_v23 (idx_main_v24 (ix4 b n t s)) = ix3 b n t from eq_ix3 _, v22_at]
  rfl

theorem v27_at (h : Hid) (wq wk : WH) (b : Fin 64) (n : Fin 325) (t : Fin 12) :
    val_main_v27 (F := Ideal) h wq wk (ix3 b n t) = total (attE h wq wk b n t) := by
  rw [val_main_v27_apply]
  show Ideal.ofBits .f32 0x00000000#32 + _ = _
  rw [Ideal.ofBits_zero_f32, zero_add]
  unfold total
  refine Finset.sum_congr rfl fun i _ => ?_
  rw [eq_ix4 (idx_main_v27 _ i)]
  exact v26_at h wq wk b n t i

theorem v30_at (h : Hid) (wq wk : WH) (b : Fin 64) (n : Fin 325) (t s : Fin 12) :
    val_main_v30 (F := Ideal) h wq wk (ix4 b n t s) = Ideal.div (weight (attE h wq wk b n t) s) (total (attE h wq wk b n t)) := by
  rw [val_main_v30_apply, val_main_v29_apply, val_main_v28_apply, v26_at,
    show idx_main_v28 (idx_main_v29 (ix4 b n t s)) = ix3 b n t from eq_ix3 _, v27_at]
  rfl

theorem v31_at (h : Hid) (wq wk wv : WH) (b : Fin 64) (n : Fin 325) (t : Fin 12) (k : Fin 32) :
    val_main_v31 (F := Ideal) h wq wk wv (ix4 b n t k) = soft (attE h wq wk b n t) (hrow h wv b n) k := by
  rw [val_main_v31_apply]
  refine Finset.sum_congr rfl fun j _ => ?_
  rw [eq_ix4 (lidx_main_v31 _ j), eq_ix4 (ridx_main_v31 _ j)]
  exact congrArg₂ (· * ·) (v30_at ..) (v15_at ..)

/-! ## The score -/

/-- The sum of squares of the memory's reading. -/
theorem memsq_at (x0 : Feat) (x5 : Mem) (x6 : WQ) (b : Fin 64) (n : Fin 325) (t : Fin 12) :
    val_main_call0_v1 (F := Ideal) x0 x5 x6 (ix3 b n t)
      = ∑ k, soft (memE x0 x5 x6 b n t) (slots x5) k * soft (memE x0 x5 x6 b n t) (slots x5) k := by
  rw [val_main_call0_v1_apply]
  show Ideal.ofBits .f32 0x00000000#32 + _ = _
  rw [Ideal.ofBits_zero_f32, zero_add]
  refine Finset.sum_congr rfl fun k _ => ?_
  rw [val_main_call0_v0_apply, eq_ix4 (idx_main_call0_v1 _ k)]
  exact congrArg (fun x => x * x) (v14_at x0 x5 x6 b n t k)

/-- The sum of squares of a head's attention. -/
theorem attsq_at (h : Hid) (wq wk wv : WH) (b : Fin 64) (n : Fin 325) (t : Fin 12) :
    val_main_call1_v1 (F := Ideal) h wq wk wv (ix3 b n t)
      = ∑ k, soft (attE h wq wk b n t) (hrow h wv b n) k * soft (attE h wq wk b n t) (hrow h wv b n) k := by
  rw [val_main_call1_v1_apply]
  show Ideal.ofBits .f32 0x00000000#32 + _ = _
  rw [Ideal.ofBits_zero_f32, zero_add]
  refine Finset.sum_congr rfl fun k _ => ?_
  rw [val_main_call1_v0_apply, eq_ix4 (idx_main_call1_v1 _ k)]
  exact congrArg (fun x => x * x) (v31_at h wq wk wv b n t k)

theorem v41_at (x0 : Feat) (x5 : Mem) (x6 : WQ) (h : Hid) (wq wk wv : WH) (b : Fin 64) (n : Fin 325) (t : Fin 12) :
    val_main_v41 (F := Ideal) x0 h x5 x6 wq wk wv (ix3 b n t)
      = cosR (soft (memE x0 x5 x6 b n t) (slots x5)) (soft (attE h wq wk b n t) (hrow h wv b n)) := by
  rw [val_main_v41_apply, val_main_v40_apply, val_main_v34_apply, val_main_v37_apply, val_main_v32_apply, val_main_v35_apply,
    memsq_at, attsq_at, val_main_v39_apply]
  unfold cosR
  show Ideal.div (Ideal.ofBits .f32 0x00000000#32 + _) _ = _
  rw [Ideal.ofBits_zero_f32, zero_add]
  refine congrArg₂ Ideal.div (Finset.sum_congr rfl fun k _ => ?_) rfl
  rw [val_main_v38_apply, eq_ix4 (idx_main_v39 _ k)]
  exact congrArg₂ (· * ·) (v14_at x0 x5 x6 b n t k) (v31_at h wq wk wv b n t k)

/-! ## The four heads -/

/-- The heads' arrays stacked along the last axis, read at an index. -/
theorem stack4 {α : Type} (f : Fin 4 → (S64x325x12x1.Idx → α))
    (hc : Shape.Concatenates [S64x325x12x1, S64x325x12x1, S64x325x12x1, S64x325x12x1] S64x325x12x4 3)
    (b : Fin 64) (n : Fin 325) (t : Fin 12) (h : Fin 4) :
    concatenate S64x325x12x4 3 [⟨S64x325x12x1, f 0⟩, ⟨S64x325x12x1, f 1⟩, ⟨S64x325x12x1, f 2⟩, ⟨S64x325x12x1, f 3⟩] hc (ix4 b n t h)
      = f h (ix4 b n t 0) :=
  concatenate_ofFn_apply (t := S64x325x12x4) (s₁ := S64x325x12x1) 3 f hc rfl 1 rfl (ix4 b n t h) h (Nat.div_one _) (ix4 b n t 0)
    (Nat.mod_one _).symm fun a ha => match a with
      | ⟨0, _⟩ => rfl
      | ⟨1, _⟩ => rfl
      | ⟨2, _⟩ => rfl
      | ⟨3, _⟩ => absurd rfl ha

/-- THE REFERENCE'S RESULT: head `h`'s cosine of the memory's softmax reading and the head's softmax attention. -/
theorem result_at (x0 : Feat) (x1 x2 x3 x4 : Hid) (x5 : Mem) (x6 : WQ) (x7 x8 x9 x10 x11 x12 x13 x14 x15 x16 x17 x18 : WH)
    (b : Fin 64) (n : Fin 325) (t : Fin 12) (h : Fin 4) :
    val_main_v127 (F := Ideal) x0 x1 x2 x3 x4 x5 x6 x7 x8 x9 x10 x11 x12 x13 x14 x15 x16 x17 x18 (ix4 b n t h)
      = cosR (soft (memE x0 x5 x6 b n t) (slots x5))
          (soft (attE (![x1, x2, x3, x4] h) (![x7, x8, x9, x10] h) (![x11, x12, x13, x14] h) b n t)
            (hrow (![x1, x2, x3, x4] h) (![x15, x16, x17, x18] h) b n)) := by
  unfold val_main_v127
  refine (stack4 ![val_main_v123 (F := Ideal) x0 x1 x5 x6 x7 x11 x15, val_main_v124 (F := Ideal) x0 x2 x5 x6 x8 x12 x16,
    val_main_v125 (F := Ideal) x0 x3 x5 x6 x9 x13 x17, val_main_v126 (F := Ideal) x0 x4 x5 x6 x10 x14 x18] _ b n t h).trans ?_
  have e0 : ∀ i : S64x325x12x1.Idx, val_main_v124 (F := Ideal) x0 x2 x5 x6 x8 x12 x16 i
      = val_main_v123 (F := Ideal) x0 x2 x5 x6 x8 x12 x16 i := fun _ => rfl
  have e1 : ∀ i : S64x325x12x1.Idx, val_main_v125 (F := Ideal) x0 x3 x5 x6 x9 x13 x17 i
      = val_main_v123 (F := Ideal) x0 x3 x5 x6 x9 x13 x17 i := fun _ => rfl
  have e2 : ∀ i : S64x325x12x1.Idx, val_main_v126 (F := Ideal) x0 x4 x5 x6 x10 x14 x18 i
      = val_main_v123 (F := Ideal) x0 x4 x5 x6 x10 x14 x18 i := fun _ => rfl
  have at1 : ∀ (y : Hid) (q k v : WH), val_main_v123 (F := Ideal) x0 y x5 x6 q k v (ix4 b n t 0)
      = cosR (soft (memE x0 x5 x6 b n t) (slots x5)) (soft (attE y q k b n t) (hrow y v b n)) := fun y q k v => by
    rw [val_main_v123_apply, show idx_main_v123 (ix4 b n t 0) = ix3 b n t from eq_ix3 _, v41_at]
  match h with
  | ⟨0, _⟩ => exact at1 x1 x7 x11 x15
  | ⟨1, _⟩ => exact (e0 _).trans (at1 x2 x8 x12 x16)
  | ⟨2, _⟩ => exact (e1 _).trans (at1 x3 x9 x13 x17)
  | ⟨3, _⟩ => exact (e2 _).trans (at1 x4 x10 x14 x18)

end Cert.RefValue

end
-- ==== Proof.MaskValue.lean ====
/- The mask `unclamped` read at an index: where it is set, the three sums of squares of the row lie at or above the guard. -/
module

public import proofs.«01_k».proof.On_unclamped
public import proofs.«01_k».proof.Pre_unclamped
public import proofs.«01_k».proof.Proof.RefValue

@[expose] public section

noncomputable section

namespace Cert.MaskValue

open Idealize.ShloMosaic Idealize.ShloMosaic.ValueIdx Cert.ReferenceIdeal Cert.ReferenceIdeal.Facts₀ Cert.ReferenceIdeal.Read Cert.Row Cert.Terms Cert.RefValue

/-- The side conditions the mask's operations state, for the pointwise claim's copy. -/
theorem onFacts : Cert.On_unclamped.Facts := by constructor <;> decide

/-- The same for the precondition's copy. -/
theorem preFacts : Cert.Pre_unclamped.Facts := by constructor <;> decide

/-- The memory weighed by bare exponentials, as the mask computes it. -/
def rawArr (x0 : Feat) (x5 : Mem) (x6 : WQ) : FVec Ideal S64x325x12x32 .f32 :=
  Host.dotGeneral (F := Ideal) (φ₁ := .f32) (φ₂ := .f32) dot_S64x325x12x20_S20x32_S64x325x12x32_3_0_012_1_n_n none (Host.exp (φ := .f32) (val_main_v2 (F := Ideal) x0 x5 x6)) x5

/-- Its sums of squares. -/
def rawSq (x0 : Feat) (x5 : Mem) (x6 : WQ) : FVec Ideal S64x325x12 .f32 :=
  Host.reduceAdd (F := Ideal) (mulf (rawArr x0 x5 x6) (rawArr x0 x5 x6)) (constant (F := Ideal) S_ .f32 0x00000000#32)
    reducesTo_S64x325x12x32_S64x325x12_d3 h_S_

/-- Where an array of sums of squares is at or above the guard. -/
def above (x : FVec Ideal S64x325x12 .f32) : IVec S64x325x12 1 :=
  cmpf .oge x (broadcastInDim S64x325x12 ![] bcast_S_S64x325x12 (constant (F := Ideal) S_ .f32 0x24E69595#32))

/-- One head's mask, spread over the unit axis the heads are stacked along. -/
def keep (x0 : Feat) (x5 : Mem) (x6 : WQ) (h : Hid) (wq wk wv : WH) : IVec S64x325x12x1 1 :=
  broadcastInDim S64x325x12x1 ![0, 1, 2] bcast_S64x325x12_S64x325x12x1_0_1_2
    (andi (andi (above (rawSq x0 x5 x6)) (above (val_main_call0_v1 (F := Ideal) x0 x5 x6)))
      (above (val_main_call1_v1 (F := Ideal) h wq wk wv)))

theorem on_eq (x0 : Feat) (x1 x2 x3 x4 : Hid) (x5 : Mem) (x6 : WQ) (x7 x8 x9 x10 x11 x12 x13 x14 x15 x16 x17 x18 : WH)
    (F : Cert.On_unclamped.Facts) :
    Cert.On_unclamped.fn (F := Ideal) x0 x1 x2 x3 x4 x5 x6 x7 x8 x9 x10 x11 x12 x13 x14 x15 x16 x17 x18
      = concatenate S64x325x12x4 3 [⟨S64x325x12x1, keep x0 x5 x6 x1 x7 x11 x15⟩, ⟨S64x325x12x1, keep x0 x5 x6 x2 x8 x12 x16⟩,
          ⟨S64x325x12x1, keep x0 x5 x6 x3 x9 x13 x17⟩, ⟨S64x325x12x1, keep x0 x5 x6 x4 x10 x14 x18⟩]
          concatenates_S64x325x12x1_S64x325x12x1_S64x325x12x1_S64x325x12x1_S64x325x12x4_d3 := by
  rfl

theorem pre_eq (x0 : Feat) (x1 x2 x3 x4 : Hid) (x5 : Mem) (x6 : WQ) (x7 x8 x9 x10 x11 x12 x13 x14 x15 x16 x17 x18 : WH)
    (F : Cert.Pre_unclamped.Facts) (F' : Cert.On_unclamped.Facts) :
    Cert.Pre_unclamped.fn (F := Ideal) x0 x1 x2 x3 x4 x5 x6 x7 x8 x9 x10 x11 x12 x13 x14 x15 x16 x17 x18
      = Cert.On_unclamped.fn (F := Ideal) x0 x1 x2 x3 x4 x5 x6 x7 x8 x9 x10 x11 x12 x13 x14 x15 x16 x17 x18 := by
  rfl

/-- A contraction of a weight table against the memory, at an index. -/
theorem against_mem (y : FVec Ideal S64x325x12x20 .f32) (x5 : Mem) (b : Fin 64) (n : Fin 325) (t : Fin 12) (k : Fin 32) :
    Host.dotGeneral (F := Ideal) (φ₁ := .f32) (φ₂ := .f32) dot_S64x325x12x20_S20x32_S64x325x12x32_3_0_012_1_n_n none y x5 (ix4 b n t k)
      = ∑ j : Fin 20, y (ix4 b n t j) * x5 (ix2 j k) := by
  simp only [Host.dotGeneral]
  rw [Ideal.dotGeneral_apply, ← Equiv.sum_comp (contrEquiv1 dot_S64x325x12x20_S20x32_S64x325x12x32_3_0_012_1_n_n 20 rfl rfl).symm]
  refine Finset.sum_congr rfl fun j _ => ?_
  have hj := contrEquiv1_symm_val dot_S64x325x12x20_S20x32_S64x325x12x32_3_0_012_1_n_n 20 rfl rfl j
  refine congrArg₂ (· * ·) (congrArg y (funext fun a => Fin.ext ?_)) (congrArg x5 (funext fun a => Fin.ext ?_))
  · match a with
    | ⟨0, _⟩ => exact lhs_main_v14_0 _ _
    | ⟨1, _⟩ => exact lhs_main_v14_1 _ _
    | ⟨2, _⟩ => exact lhs_main_v14_2 _ _
    | ⟨3, _⟩ => exact (lhs_main_v14_3 _ _).trans hj
  · match a with
    | ⟨0, _⟩ => exact (rhs_main_v14_0 _ _).trans hj
    | ⟨1, _⟩ => exact rhs_main_v14_1 _ _

theorem rawArr_at (x0 : Feat) (x5 : Mem) (x6 : WQ) (b : Fin 64) (n : Fin 325) (t : Fin 12) (k : Fin 32) :
    rawArr x0 x5 x6 (ix4 b n t k) = raw (memE x0 x5 x6 b n t) (slots x5) k := by
  unfold rawArr raw
  rw [against_mem]
  refine Finset.sum_congr rfl fun j _ => congrArg₂ (· * ·) ?_ rfl
  exact congrArg Ideal.exp (v2_at x0 x5 x6 b n t j)

theorem rawSq_at (x0 : Feat) (x5 : Mem) (x6 : WQ) (b : Fin 64) (n : Fin 325) (t : Fin 12) :
    rawSq x0 x5 x6 (ix3 b n t)
      = ∑ k, raw (memE x0 x5 x6 b n t) (slots x5) k * raw (memE x0 x5 x6 b n t) (slots x5) k := by
  have step : rawSq x0 x5 x6 (ix3 b n t)
      = Ideal.ofBits .f32 0x00000000#32 + ∑ k : Fin 32, mulf (rawArr x0 x5 x6) (rawArr x0 x5 x6) (idx_main_call0_v1 (ix3 b n t) k) := by
    unfold rawSq
    generalize mulf (rawArr x0 x5 x6) (rawArr x0 x5 x6) = y
    simp only [Host.reduceAdd, Ideal.hostReduceAdd_def]
    rw [Ideal.hostReduceAdd_single reducesTo_S64x325x12x32_S64x325x12_d3 (by decide)]
    refine congrArg₂ (· + ·) rfl (Finset.sum_congr rfl fun k _ => ?_)
    exact congrArg y (funext fun a => Fin.ext (by match a with | ⟨0, _⟩ => rfl | ⟨1, _⟩ => rfl | ⟨2, _⟩ => rfl | ⟨3, _⟩ => rfl))
  rw [step, Ideal.ofBits_zero_f32, zero_add]
  refine Finset.sum_congr rfl fun k _ => ?_
  rw [eq_ix4 (idx_main_call0_v1 _ k)]
  exact congrArg (fun x => x * x) (rawArr_at x0 x5 x6 b n t k)

theorem above_at {x : FVec Ideal S64x325x12 .f32} {i : S64x325x12.Idx} (h : above x i = 1#1) : floor2 ≤ x i := by
  by_contra hn
  have h0 : above x i = BitVec.ofBool (decide (floor2 ≤ x i)) := rfl
  rw [h0, decide_eq_false hn] at h
  exact absurd h (by decide)

theorem both {x y : BitVec 1} (h : x &&& y = 1#1) : x = 1#1 ∧ y = 1#1 := by
  revert x y; decide

/-- Masks of the rows, spread over a unit axis. -/
theorem spread_at (y : IVec S64x325x12 1) (b : Fin 64) (n : Fin 325) (t : Fin 12) :
    broadcastInDim S64x325x12x1 ![0, 1, 2] bcast_S64x325x12_S64x325x12x1_0_1_2 y (ix4 b n t 0) = y (ix3 b n t) :=
  broadcastInDim_apply _ bcast_S64x325x12_S64x325x12x1_0_1_2 y (ix4 b n t 0) (ix3 b n t) (fun a => match a with
    | ⟨0, _⟩ => by show b.val = if (64 : Nat) = 1 then 0 else b.val; rw [if_neg (by decide)]
    | ⟨1, _⟩ => by show n.val = if (325 : Nat) = 1 then 0 else n.val; rw [if_neg (by decide)]
    | ⟨2, _⟩ => by show t.val = if (12 : Nat) = 1 then 0 else t.val; rw [if_neg (by decide)])

theorem both_at {x y : IVec S64x325x12 1} {i : S64x325x12.Idx} (h : andi x y i = 1#1) : x i = 1#1 ∧ y i = 1#1 := both h

theorem keep_at {x0 : Feat} {x5 : Mem} {x6 : WQ} {h : Hid} {wq wk wv : WH} {b : Fin 64} {n : Fin 325} {t : Fin 12}
    (H : keep x0 x5 x6 h wq wk wv (ix4 b n t 0) = 1#1) :
    floor2 ≤ ∑ k, raw (memE x0 x5 x6 b n t) (slots x5) k * raw (memE x0 x5 x6 b n t) (slots x5) k
      ∧ floor2 ≤ ∑ k, soft (memE x0 x5 x6 b n t) (slots x5) k * soft (memE x0 x5 x6 b n t) (slots x5) k
      ∧ floor2 ≤ ∑ k, soft (attE h wq wk b n t) (hrow h wv b n) k * soft (attE h wq wk b n t) (hrow h wv b n) k := by
  have H' := (spread_at _ b n t).symm.trans H
  obtain ⟨H1, H3⟩ := both_at H'
  obtain ⟨H1, H2⟩ := both_at H1
  have g1 := above_at H1
  have g2 := above_at H2
  have g3 := above_at H3
  rw [rawSq_at] at g1
  rw [memsq_at] at g2
  rw [attsq_at] at g3
  exact ⟨g1, g2, g3⟩

/-- Where the mask is set the kernel's cosine of the bare readings is the reference's of the normalised ones. -/
theorem score_at (x0 : Feat) (x1 x2 x3 x4 : Hid) (x5 : Mem) (x6 : WQ) (x7 x8 x9 x10 x11 x12 x13 x14 x15 x16 x17 x18 : WH)
    (F : Cert.On_unclamped.Facts) (b : Fin 64) (n : Fin 325) (t : Fin 12) (h : Fin 4)
    (H : Cert.On_unclamped.fn (F := Ideal) x0 x1 x2 x3 x4 x5 x6 x7 x8 x9 x10 x11 x12 x13 x14 x15 x16 x17 x18 (ix4 b n t h) = 1#1) :
    cosK (raw (memE x0 x5 x6 b n t) (slots x5))
        (unscaled (attE (![x1, x2, x3, x4] h) (![x7, x8, x9, x10] h) (![x11, x12, x13, x14] h) b n t)
          (hrow (![x1, x2, x3, x4] h) (![x15, x16, x17, x18] h) b n))
      = val_main_v127 (F := Ideal) x0 x1 x2 x3 x4 x5 x6 x7 x8 x9 x10 x11 x12 x13 x14 x15 x16 x17 x18 (ix4 b n t h) := by
  rw [result_at]
  rw [on_eq] at H
  have H' := (stack4 (fun h : Fin 4 => keep x0 x5 x6 (![x1, x2, x3, x4] h) (![x7, x8, x9, x10] h) (![x11, x12, x13, x14] h) (![x15, x16, x17, x18] h))
    concatenates_S64x325x12x1_S64x325x12x1_S64x325x12x1_S64x325x12x1_S64x325x12x4_d3 b n t h).symm.trans H
  obtain ⟨g1, g2, g3⟩ := keep_at H'
  exact score_eq (query x0 x6 b n t) _ _ (fun _ => rfl) (by decide) _ _ (by decide) g1 g2 g3

end Cert.MaskValue

end
-- ==== Proof.lean ====
/- The certificate: the five claims about the kernel and the reference, put together. Both value claims rest on one equation: where the
   mask is set, the kernel's scores (KernelValue) are the reference's cosines (MaskValue). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.MaskValue
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx

/-- The memory of the kernel's program at the extended reals. -/
abbrev KMem := (ℓ : Loc Cert.KernelIdeal.nD Cert.KernelIdeal.τ Cert.KernelIdeal.sig) → Buf (Elt Ideal) ℓ
/-- The memory of the reference's program at the extended reals. -/
abbrev RMem := (ℓ : Loc Cert.ReferenceIdeal.nD Cert.ReferenceIdeal.τ Cert.ReferenceIdeal.sig) → Buf (Elt Ideal) ℓ

/-- Where the mask is set the kernel's scores are the reference's result of the same arguments. -/
theorem agree (m : KMem) (m' : RMem) (c : Dev Cert.KernelIdeal.nD)
    (e : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)))
    (F : Cert.On_unclamped.Facts) (i : Cert.KernelIdeal.S64x325x12x4.Idx)
    (H : Cert.On_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) i = 1#1) :
    Cert.ReferenceIdeal.Value.res_main_v127 m' c i = Cert.KernelValue.scores m c i := by
  obtain ⟨a0, a1, a2, a3, a4, a5, a6, a7, a8, a9, a10, a11, a12, a13, a14, a15, a16, a17, a18⟩ := e c
  obtain ⟨b, n, t, h, rfl⟩ : ∃ b n t h, i = ix4 b n t h := ⟨_, _, _, _, eq_ix4 (n0 := 64) (n1 := 325) (n2 := 12) (n3 := 4) i⟩
  rw [Cert.ReferenceIdeal.Read.val_main_v127_eq, a0, a1, a2, a3, a4, a5, a6, a7, a8, a9, a10, a11, a12, a13, a14, a15, a16, a17, a18]
  exact (Cert.MaskValue.score_at _ _ _ _ _ _ _ _ _ _ _ _ _ _ _ _ _ _ _ F b n t h H).symm

theorem frame_kernel : @Cert.quiescent_Kernel Cert.Kernel.Gen.facts := fun m ρ _ => Cert.Kernel.Gen.frame m ρ
theorem frame_ideal : @Cert.quiescent_KernelIdeal Cert.KernelIdeal.Gen.facts := fun m ρ _ => Cert.KernelIdeal.Gen.frame m ρ
theorem frame_ideal_pre : @Cert.quiescent_KernelIdeal_pre_unclamped Cert.KernelIdeal.Gen.facts Cert.MaskValue.preFacts :=
  fun m ρ _ => Cert.KernelIdeal.Gen.frame m ρ
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : @Cert.quiescent_ReferenceIdeal_pre_unclamped Cert.ReferenceIdeal.Gen.facts Cert.MaskValue.preFacts :=
  fun m ρ _ => frame_reference m ρ trivial

/-- The two results agree at every index the mask selects. -/
theorem algebraic_on :
    @Cert.algebraic_KernelIdeal_ReferenceIdeal_on_unclamped Cert.KernelIdeal.Gen.facts Cert.ReferenceIdeal.Gen.facts Cert.MaskValue.onFacts := by
  intro m ρ m' ρ' _ e
  refine ⟨fun c => Cert.KernelValue.scores m c, ?_, ?_⟩
  · exact (θ_run Cert.KernelIdeal.defs _ _).mono
      (fun _ h c => ⟨fun i _ => congrFun ((h c).1.trans (Cert.KernelValue.final m c)) i, (h c).2⟩)
      (Cert.KernelIdeal.Value.run_blocks (F := Ideal) m ρ)
  · exact (θ_run Cert.ReferenceIdeal.defs _ _).mono
      (fun _ h c => ⟨fun i hi => (congrFun (h c).1 i).trans (agree m m' c e Cert.MaskValue.onFacts i hi), (h c).2⟩)
      (Cert.ReferenceIdeal.Value.run (F := Ideal) m' ρ')

/-- The two results agree whole when the mask is set everywhere. -/
theorem algebraic_pre :
    @Cert.algebraic_KernelIdeal_ReferenceIdeal_pre_unclamped Cert.KernelIdeal.Gen.facts Cert.ReferenceIdeal.Gen.facts Cert.MaskValue.preFacts := by
  intro m ρ m' ρ' hp e
  refine ⟨fun c => Cert.KernelValue.scores m c, ?_, ?_⟩
  · exact (θ_run Cert.KernelIdeal.defs _ _).mono
      (fun _ h c => ⟨(h c).1.trans (Cert.KernelValue.final m c), (h c).2⟩)
      (Cert.KernelIdeal.Value.run_blocks (F := Ideal) m ρ)
  · exact (θ_run Cert.ReferenceIdeal.defs _ _).mono
      (fun _ h c => ⟨(h c).1.trans (funext fun i => agree m m' c e Cert.MaskValue.onFacts i
        ((congrFun (Cert.MaskValue.pre_eq _ _ _ _ _ _ _ _ _ _ _ _ _ _ _ _ _ _ _ Cert.MaskValue.preFacts Cert.MaskValue.onFacts).symm i).trans (congrFun (hp c) i))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.MaskValue.preFacts, Cert.MaskValue.onFacts,
    frame_kernel, frame_ideal, frame_ideal_pre, frame_reference, frame_reference_pre, trivial, algebraic_pre, algebraic_on⟩

end Cert.Proof

end
